-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S512x1024 : Shape := ⟨2, ![512, 1024]⟩
abbrev S_ : Shape := ⟨0, ![]⟩
abbrev S512x128 : Shape := ⟨2, ![512, 128]⟩
abbrev S6x2x128x256 : Shape := ⟨4, ![6, 2, 128, 256]⟩
abbrev S6 : Shape := ⟨1, ![6]⟩
abbrev S512x768 : Shape := ⟨2, ![512, 768]⟩
abbrev S1x128x512 : Shape := ⟨3, ![1, 128, 512]⟩
abbrev S128x512 : Shape := ⟨2, ![128, 512]⟩
abbrev S128x768 : Shape := ⟨2, ![128, 768]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S512x256 : Shape := ⟨2, ![512, 256]⟩
abbrev S128x256 : Shape := ⟨2, ![128, 256]⟩
abbrev S1x128x256 : Shape := ⟨3, ![1, 128, 256]⟩
abbrev S1x1x128x256 : Shape := ⟨4, ![1, 1, 128, 256]⟩
abbrev S1 : Shape := ⟨1, ![1]⟩
abbrev S1x2x128x256 : Shape := ⟨4, ![1, 2, 128, 256]⟩
abbrev S2x128x256 : Shape := ⟨3, ![2, 128, 256]⟩

abbrev nBuf : Space → Nat
  | .hbm => 30
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x1024, .f32⟩
  | .hbm, ⟨3, _⟩ => ⟨S512x1024, .f32⟩
  | .hbm, ⟨4, _⟩ => ⟨S512x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x128, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x128, .f32⟩
  | .hbm, ⟨29, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x128, .f32⟩
  | .local _ .vmem, ⟨4, _⟩ => ⟨S512x128, .f32⟩
  | .local _ .vmem, ⟨5, _⟩ => ⟨S2x128x512, .f32⟩
  | .local _ .vmem, ⟨6, _⟩ => ⟨S6x2x128x256, .bf16⟩
  | .local _ .vmem, ⟨7, _⟩ => ⟨S6x2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_122 : BitVec 32 := 1#32
  let v304 : BitVec 32 := Scalar.muli v3 c1_i32_122
  let v305 : BitVec 32 := Scalar.addi c0_i32_123 v304
  v305.toNat
def k0_dev5 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_149 : BitVec 32 := 1#32
  let v332 : BitVec 32 := Scalar.muli v3 c1_i32_149
  let v333 : BitVec 32 := Scalar.addi c0_i32_150 v332
  v333.toNat
def k0_dev6 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_186 : BitVec 32 := 1#32
  let v361 : BitVec 32 := Scalar.muli v4 c1_i32_186
  let v362 : BitVec 32 := Scalar.addi c0_i32_187 v361
  v362.toNat
def k0_dev7 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v4 : BitVec 32 := Scalar.xori v2 c2_i32
  let c1_i32_223 : BitVec 32 := 1#32
  let v390 : BitVec 32 := Scalar.muli v4 c1_i32_223
  let v391 : BitVec 32 := Scalar.addi c0_i32_224 v390
  v391.toNat
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_260 : BitVec 32 := 1#32
  let v419 : BitVec 32 := Scalar.muli v5 c1_i32_260
  let v420 : BitVec 32 := Scalar.addi c0_i32_261 v419
  v420.toNat
def k0_dev9 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_296 : BitVec 32 := 1#32
  let v448 : BitVec 32 := Scalar.muli v5 c1_i32_296
  let v449 : BitVec 32 := Scalar.addi c0_i32_297 v448
  v449.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S512x1024 : Shape := ⟨2, ![512, 1024]⟩
abbrev S4096x512 : Shape := ⟨2, ![4096, 512]⟩
abbrev S2x128x4096 : Shape := ⟨3, ![2, 128, 4096]⟩
abbrev S2x128x64x64 : Shape := ⟨4, ![2, 128, 64, 64]⟩
abbrev S2x128x1024 : Shape := ⟨3, ![2, 128, 1024]⟩
abbrev S2x128x16x64 : Shape := ⟨4, ![2, 128, 16, 64]⟩
abbrev S2x128x16x4x64 : Shape := ⟨5, ![2, 128, 16, 4, 64]⟩
abbrev S2x64x128x128 : Shape := ⟨4, ![2, 64, 128, 128]⟩
abbrev S_ : Shape := ⟨0, ![]⟩
abbrev S2x64x128 : Shape := ⟨3, ![2, 64, 128]⟩
abbrev S2x64x128x1 : Shape := ⟨4, ![2, 64, 128, 1]⟩
abbrev S2x64x64x128 : Shape := ⟨4, ![2, 64, 64, 128]⟩
abbrev S2x128x64x1 : Shape := ⟨4, ![2, 128, 64, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S512x1024, .f32⟩
  | .hbm, ⟨3, _⟩ => ⟨S512x1024, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S2x128x1024, .f32⟩
  | .hbm, ⟨8, _⟩ => ⟨S2x128x16x64, .f32⟩
  | .hbm, ⟨9, _⟩ => ⟨S2x128x1024, .f32⟩
  | .hbm, ⟨10, _⟩ => ⟨S2x128x16x64, .f32⟩
  | .hbm, ⟨11, _⟩ => ⟨S2x128x16x4x64, .f32⟩
  | .hbm, ⟨12, _⟩ => ⟨S2x128x64x64, .f32⟩
  | .hbm, ⟨13, _⟩ => ⟨S2x128x16x4x64, .f32⟩
  | .hbm, ⟨14, _⟩ => ⟨S2x128x64x64, .f32⟩
  | .hbm, ⟨15, _⟩ => ⟨S2x64x128x128, .f32⟩
  | .hbm, ⟨16, _⟩ => ⟨S_, .f32⟩
  | .hbm, ⟨17, _⟩ => ⟨S2x64x128x128, .f32⟩
  | .hbm, ⟨18, _⟩ => ⟨S2x64x128x128, .f32⟩
  | .hbm, ⟨19, _⟩ => ⟨S_, .f32⟩
  | .hbm, ⟨20, _⟩ => ⟨S2x64x128, .f32⟩
  | .hbm, ⟨21, _⟩ => ⟨S2x64x128x1, .f32⟩
  | .hbm, ⟨22, _⟩ => ⟨S2x64x128x128, .f32⟩
  | .hbm, ⟨23, _⟩ => ⟨S2x64x128x128, .f32⟩
  | .hbm, ⟨24, _⟩ => ⟨S2x64x128x128, .f32⟩
  | .hbm, ⟨25, _⟩ => ⟨S_, .f32⟩
  | .hbm, ⟨26, _⟩ => ⟨S2x64x128, .f32⟩
  | .hbm, ⟨27, _⟩ => ⟨S2x64x128x1, .f32⟩
  | .hbm, ⟨28, _⟩ => ⟨S2x64x64x128, .f32⟩
  | .hbm, ⟨29, _⟩ => ⟨S2x128x64x64, .f32⟩
  | .hbm, ⟨30, _⟩ => ⟨S2x128x64x1, .f32⟩
  | .hbm, ⟨31, _⟩ => ⟨S2x128x64x64, .f32⟩
  | .hbm, ⟨32, _⟩ => ⟨S2x128x64x64, .f32⟩
  | .hbm, ⟨33, _⟩ => ⟨S2x128x4096, .f32⟩
  | .hbm, ⟨34, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Protocol.lean ====
/-
  The exchange of the kernel, as a schedule of rounds.

  Eight devices add up their partial outputs by recursive doubling: in step k (0, 1, 2) device c
  trades with the device whose number differs from its own in bit k, once per column half h (0, 1).
  The trade `2 k + h` uses slot `2 k + h` of the send buffer, of the receive buffer and of the two
  arrays of semaphores.

  * The barrier cell of a device has three duties, one per partner; partner k pays its own two
    receive slots of step k, and that the receive cells of these slots are open.
  * The receive cell r of a device has one duty, paid by the partner's copy: the slot, at what the
    partner sent.
  * The send cell r of a device has one duty, paid by its own copy: the send slot back.
-/
module

public import proofs.«01_k».proof.Proof.Gen.KernelIdeal
public import Idealize.ShloMosaic.Lib.Pipeline.Regions
public import Idealize.ShloMosaic.Lib.Pipeline.Kit
public import Idealize.ShloMosaic.Lib.Rounds
public import Idealize.ShloMosaic.Lib.Tactic
public import Idealize.ShloMosaic.Lib.Memref

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Partners and slots -/

/-- The partner of device `c` in step `k`: the numbers differ in bit `k`. -/
def pr (k : Fin 3) (c : Dev nD) : Dev nD :=
  ⟨c.val ^^^ 2 ^ k.val, by revert k c; decide⟩

theorem pr_pr (k : Fin 3) (c : Dev nD) : pr k (pr k c) = c := by revert k c; decide

/-- Trading in step `k` is a permutation of the devices. -/
def swap (k : Fin 3) : Dev nD ≃ Dev nD := ⟨pr k, pr k, pr_pr k, pr_pr k⟩

/-- The step of trade `r`. -/
def st (r : Fin 6) : Fin 3 := ⟨r.val / 2, by omega⟩
/-- The column half of trade `r`. -/
def hf (r : Fin 6) : Fin 2 := ⟨r.val % 2, by omega⟩

theorem inb_slab (r : Fin 6) : ∀ a, (![r.val, 0, 0, 0] : Fin 4 → Nat) a + S1x2x128x256.size a ≤ S6x2x128x256.size a := by
  revert r; decide

/-- The rectangle of slot `r` in a slot buffer. -/
abbrev slab (r : Fin 6) : Rect S6x2x128x256 := Rect.unit (s := S6x2x128x256) ![r.val, 0, 0, 0] S1x2x128x256.size (inb_slab r)

abbrev commM : Memref sig .tc .vmem S6x2x128x256 .bf16 := Memref.whole cc0_scratch0
abbrev sendM : Memref sig .tc .vmem S6x2x128x256 .bf16 := Memref.whole cc0_scratch1

/-- Slot `r` of a slot buffer. -/
abbrev slot (M : Memref sig .tc .vmem S6x2x128x256 .bf16) (r : Fin 6) : Memref sig .tc .vmem S2x128x256 .bf16 :=
  (M.slice (slab r) (fun _ => rfl)).squeeze S2x128x256 squeezes_S1x2x128x256_S2x128x256

/-- Receive slot `r`. -/
abbrev comm (r : Fin 6) : Memref sig .tc .vmem S2x128x256 .bf16 := slot commM r
/-- Send slot `r`. -/
abbrev send (r : Fin 6) : Memref sig .tc .vmem S2x128x256 .bf16 := slot sendM r

/-! ## Cells -/

abbrev barS : Sem sig := barrier0
abbrev sendS (r : Fin 6) : DmaSem sig := ⟨6 + r.val, by show 6 + r.val < 18; omega⟩
abbrev recvS (r : Fin 6) : DmaSem sig := ⟨12 + r.val, by show 12 + r.val < 18; omega⟩

abbrev barCell (c : Dev nD) : GSem nD τ sig := ((c : Thread nD τ), .reg barS)
abbrev sendCell (r : Fin 6) (c : Dev nD) : GSem nD τ sig := ((c : Thread nD τ), .dma (sendS r))
abbrev recvCell (r : Fin 6) (c : Dev nD) : GSem nD τ sig := ((c : Thread nD τ), .dma (recvS r))

/-- What a semaphore is for. -/
inductive Role where
  | bar
  | send (r : Fin 6)
  | recv (r : Fin 6)
  | other
  deriving DecidableEq

/-- The role of each semaphore. -/
def role : SemLoc sig → Role
  | .reg _ => .bar
  | .dma s => if h : 12 ≤ s.val then .recv ⟨s.val - 12, by have : s.val < 18 := s.isLt; omega⟩
      else if h' : 6 ≤ s.val then .send ⟨s.val - 6, by omega⟩ else .other

theorem role_bar : role (.reg barS) = .bar := rfl
theorem role_send (r : Fin 6) : role (.dma (sendS r)) = .send r := by revert r; decide
theorem role_recv (r : Fin 6) : role (.dma (recvS r)) = .recv r := by revert r; decide

/-- What one copy credits. -/
abbrev N : ℕ := (comm 0).view.dmaCredit
theorem N_pos : 0 < N := View.dmaCredit_pos _ (by decide)

/-! ## The resource algebra: the pipeline's copy and the exchange's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The schedule -/

/-- What a slot of the exchange holds. -/
abbrev SlotV (F : FTy → Type) := S2x128x256.Idx → Elt F .bf16

/-- Paid to device `c`'s barrier cell by its partner of step `k`: one of the partner's receive slots of this
    step, with its receive cell open. -/
def lend (r : Fin 6) (c : Dev nD) : sProp 𝕄 :=
  iprop((∃ X : SlotV F, owns ((pr (st r) c : Dev nD) : Thread nD τ) (comm r) fullShare X) ∗ reached ER (recvCell r (pr (st r) c)) 0)

/-- The first and the second trade of step `k`. -/
def tr (k : Fin 3) (h : Fin 2) : Fin 6 := ⟨2 * k.val + h.val, by omega⟩

def barPay (k : Fin 3) (c : Dev nD) : sProp 𝕄 := iprop(lend (F := F) (tr k 0) c ∗ lend (F := F) (tr k 1) c)

/-- The payload of a duty, by the role of its cell. `S r c` is what device `c` sends in trade `r`. -/
def pay (S : Fin 6 → Dev nD → SlotV F) (c : Dev nD) (k : Fin 3) : Role → sProp 𝕄
  | .bar => barPay k c
  | .send r => iprop(∃ X : SlotV F, owns (c : Thread nD τ) (send r) fullShare X)
  | .recv r => owns (c : Thread nD τ) (comm r) fullShare (S r (pr (st r) c))
  | .other => iprop(emp)

/-- The duties of a cell, by its role. -/
def dut : Role → Finset (Fin 3)
  | .bar => Finset.univ
  | .send _ => {0}
  | .recv _ => {0}
  | .other => ∅

/-- What one duty of a cell is worth, by its role. -/
def amt : Role → ℕ
  | .bar => 1
  | _ => N

theorem amt_pos : ∀ o : Role, 0 < amt o
  | .bar => Nat.one_pos
  | .send _ => N_pos
  | .recv _ => N_pos
  | .other => N_pos

instance pay_storable (S : Fin 6 → Dev nD → SlotV F) (c : Dev nD) (k : Fin 3) (o : Role) :
    BI.Storable (upEmb : UEmb _ 𝕄) (pay S c k o) := by
  cases o <;> (dsimp only [pay, barPay, lend]; infer_instance)

/-- One round on every cell of the exchange. -/
def Rd (S : Fin 6 → Dev nD → SlotV F) : Rounds.Schedule (GSem nD τ sig) (Fin 3) 𝕄 where
  duties g r := if r = 0 ∧ g.1.2 = .tc then dut (role g.2) else ∅
  unitless _ := False
  amount g _ _ := amt (role g.2)
  payload g _ k := pay S g.1.1 k (role g.2)
  amount_pos g _ _ _ := amt_pos _

instance Rd_payload_storable (S : Fin 6 → Dev nD → SlotV F) (g : GSem nD τ sig) (r : ℕ) (d : Fin 3) :
    BI.Storable (upEmb : UEmb _ 𝕄) ((Rd S).payload g r d) := pay_storable S _ _ _

section Tables

variable (S : Fin 6 → Dev nD → SlotV F) (c : Dev nD) (r : Fin 6)

theorem duties_tc (sm : SemLoc sig) : (Rd S).duties ((c : Thread nD τ), sm) 0 = dut (role sm) := by
  dsimp only [Rd]; exact if_pos ⟨rfl, rfl⟩
theorem duties_bar : (Rd S).duties (barCell c) 0 = Finset.univ := duties_tc S c _
theorem duties_send : (Rd S).duties (sendCell r c) 0 = {0} := by rw [duties_tc, role_send]; rfl
theorem duties_recv : (Rd S).duties (recvCell r c) 0 = {0} := by rw [duties_tc, role_recv]; rfl
theorem duties_later (g : GSem nD τ sig) : ∀ n, 1 ≤ n → (Rd S).duties g n = ∅ :=
  fun n hn => by dsimp only [Rd]; exact if_neg fun h => by omega

theorem amount_bar (k : Fin 3) : (Rd S).amount (barCell c) 0 k = 1 := rfl
theorem amount_send (k : Fin 3) : (Rd S).amount (sendCell r c) 0 k = N := by
  show amt (role (.dma (sendS r))) = N; rw [role_send]; rfl
theorem amount_recv (k : Fin 3) : (Rd S).amount (recvCell r c) 0 k = N := by
  show amt (role (.dma (recvS r))) = N; rw [role_recv]; rfl

theorem payload_bar (k : Fin 3) : (Rd S).payload (barCell c) 0 k = barPay k c := rfl
theorem payload_send (k : Fin 3) :
    (Rd S).payload (sendCell r c) 0 k = iprop(∃ X : SlotV F, owns (c : Thread nD τ) (send r) fullShare X) := by
  show pay S c k (role (.dma (sendS r))) = _; rw [role_send]; rfl
theorem payload_recv (k : Fin 3) :
    (Rd S).payload (recvCell r c) 0 k = owns (c : Thread nD τ) (comm r) fullShare (S r (pr (st r) c)) := by
  show pay S c k (role (.dma (recvS r))) = _; rw [role_recv]; rfl

theorem expect_bar : (Rd S).expect (barCell c) 0 = 3 := by
  unfold Schedule.expect Schedule.amountOf; rw [duties_bar]; rfl
theorem expect_send : (Rd S).expect (sendCell r c) 0 = N := by
  unfold Schedule.expect Schedule.amountOf; rw [duties_send, Finset.sum_singleton, amount_send]
theorem expect_recv : (Rd S).expect (recvCell r c) 0 = N := by
  unfold Schedule.expect Schedule.amountOf; rw [duties_recv, Finset.sum_singleton, amount_recv]

theorem rest_bar : bigSep ((Rd S).duties (barCell c) 0 \ ∅) (fun k => (Rd S).payload (barCell c) 0 k)
    = bigSep Finset.univ (fun k : Fin 3 => barPay k c) := by
  rw [Finset.sdiff_empty, duties_bar]; rfl
theorem rest_send : bigSep ((Rd S).duties (sendCell r c) 0 \ ∅) (fun k => (Rd S).payload (sendCell r c) 0 k)
    = iprop(∃ X : SlotV F, owns (c : Thread nD τ) (send r) fullShare X) := by
  rw [Finset.sdiff_empty, duties_send, bigSep_singleton, payload_send]
theorem rest_recv : bigSep ((Rd S).duties (recvCell r c) 0 \ ∅) (fun k => (Rd S).payload (recvCell r c) 0 k)
    = owns (c : Thread nD τ) (comm r) fullShare (S r (pr (st r) c)) := by
  rw [Finset.sdiff_empty, duties_recv, bigSep_singleton, payload_recv]

end Tables

/-! ## What each core owes, and the levels -/

/-- Owed to the partner's receive cell by trade `r` of device `c`. -/
def oweR (r : Fin 6) (c : Dev nD) : CellTallies nD τ sig Unit := tallyAt (recvCell r (pr (st r) c)) () N
/-- Owed to the partner's barrier cell in step `k`. -/
def oweB (k : Fin 3) (c : Dev nD) : CellTallies nD τ sig Unit := tallyAt (barCell (pr k c)) () 1

/-- Owed while the last `j` trades are still to come. -/
def left : ℕ → Dev nD → CellTallies nD τ sig Unit
  | 0, _ => 0
  | j + 1, c => left j c + oweR ⟨5 - j, by omega⟩ c

/-- Owed before trade `n`: the trades `n` and later. -/
abbrev owed (n : ℕ) (c : Dev nD) : CellTallies nD τ sig Unit := left (6 - n) c

/-- Owed at the start: all trades and the three barrier units. -/
def O₀ (c : Dev nD) : CellTallies nD τ sig Unit := owed 0 c + oweB 2 c + oweB 1 c + oweB 0 c

def L (g : GSem nD τ sig) : Finset Unit := if g.1.2 = .tc then {()} else ∅

/-- Barrier cells at 1, the receive cell of trade `r` at `2 + r`, the rest at 0. -/
def lvR : Role → ℕ
  | .bar => 1
  | .recv r => 2 + r.val
  | _ => 0
def lv (g : GSem nD τ sig) (_ : Unit) : ℕ := lvR (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (r : Fin 6) (c : Dev nD) (u : Unit) : lv (recvCell r c) u = 2 + r.val := by
  show lvR (role (.dma (recvS r))) = _; rw [role_recv]; rfl
theorem lv_send (r : Fin 6) (c : Dev nD) (u : Unit) : lv (sendCell r c) u = 0 := by
  show lvR (role (.dma (sendS r))) = _; rw [role_send]; rfl

theorem tally_pos {g₀ g : GSem nD τ sig} {u : Unit} {n : ℕ}
    (h : 0 < (tallyAt g₀ () n : CellTallies nD τ sig Unit) g u) : g = g₀ := by
  rw [tallyAt_apply] at h
  by_cases h' : g = g₀ ∧ u = ()
  · exact h'.1
  · rw [if_neg h'] at h; exact absurd h (Nat.lt_irrefl 0)

theorem add_pos_cases {A B : CellTallies nD τ sig Unit} {g : GSem nD τ sig} {u : Unit} (h : 0 < (A + B) g u) :
    0 < A g u ∨ 0 < B g u := by
  have h' : 0 < A g u + B g u := h
  omega

theorem oweR_pos {r : Fin 6} {c : Dev nD} {g : GSem nD τ sig} {u : Unit} (h : 0 < oweR r c g u) :
    g = recvCell r (pr (st r) c) := tally_pos h

theorem left_pos (c : Dev nD) (g : GSem nD τ sig) (u : Unit) : ∀ j, 0 < left j c g u →
    ∃ r : Fin 6, 6 - j ≤ r.val ∧ g = recvCell r (pr (st r) c)
  | 0, h => absurd h (Nat.lt_irrefl 0)
  | j + 1, h => (add_pos_cases h).elim (fun h => (left_pos c g u j h).imp fun _ p => ⟨by omega, p.2⟩)
      fun h => ⟨⟨5 - j, by omega⟩, (by show 6 - (j + 1) ≤ 5 - j; omega), oweR_pos h⟩

/-- Before trade `n` only receive cells of trades `n` and later are owed. -/
theorem owed_pos (c : Dev nD) (g : GSem nD τ sig) (u : Unit) (n : ℕ) (h : 0 < owed n c g u) :
    ∃ r : Fin 6, n ≤ r.val ∧ g = recvCell r (pr (st r) c) := by
  by_cases hn : n ≤ 6
  · exact (left_pos c g u _ h).imp fun _ p => ⟨by omega, p.2⟩
  · rw [owed, Nat.sub_eq_zero_of_le (by omega)] at h
    exact absurd h (Nat.lt_irrefl 0)

/-- What is owed at the start is owed to barrier cells and receive cells. -/
theorem O₀_pos {c : Dev nD} {g : GSem nD τ sig} {u : Unit} (h : 0 < O₀ c g u) :
    (∃ r : Fin 6, g = recvCell r (pr (st r) c)) ∨ ∃ k : Fin 3, g = barCell (pr k c) := by
  rcases add_pos_cases h with h | h
  · rcases add_pos_cases h with h | h
    · rcases add_pos_cases h with h | h
      · exact .inl ((owed_pos c g u 0 h).imp fun _ p => p.2)
      · exact .inr ⟨2, tally_pos h⟩
    · exact .inr ⟨1, tally_pos h⟩
  · exact .inr ⟨0, tally_pos h⟩

/-- The barrier may be waited for while all trades are owed. -/
theorem mayWait_bar (c : Dev nD) : (levAts L lv : sProp 𝕄) ⊢ MayWait (c : Thread nD τ) (.reg barS) () (owed 0 c) :=
  MayOwe.of_cut (L := L) (lev := lv) 1 (fun p hp => by rw [Finset.mem_singleton.mp hp, L_tc]; exact Finset.mem_singleton_self _)
    (fun g u hg => by
      obtain ⟨r, -, rfl⟩ := owed_pos c g u 0 hg
      rw [L_tc]; exact Finset.mem_singleton_self _)
    (fun p hp => by rw [Finset.mem_singleton.mp hp]; exact (lv_bar c ()).le)
    (fun g u hg => by
      obtain ⟨r, -, rfl⟩ := owed_pos c g u 0 hg
      rw [lv_recv]; omega)

/-- Trade `r` may be waited for while only later trades are owed. -/
theorem mayWait_recv (r : Fin 6) (n : ℕ) (hn : r.val < n) (c : Dev nD) :
    (levAts L lv : sProp 𝕄) ⊢ MayWait (c : Thread nD τ) (.dma (recvS r)) () (owed n c) :=
  MayOwe.of_cut (L := L) (lev := lv) (2 + r.val) (fun p hp => by rw [Finset.mem_singleton.mp hp, L_tc]; exact Finset.mem_singleton_self _)
    (fun g u hg => by
      obtain ⟨r, -, rfl⟩ := owed_pos c g u n hg
      rw [L_tc]; exact Finset.mem_singleton_self _)
    (fun p hp => by rw [Finset.mem_singleton.mp hp]; exact (lv_recv r c ()).le)
    (fun g u hg => by
      obtain ⟨r', h', rfl⟩ := owed_pos c g u n hg
      rw [lv_recv]; omega)

end Cert.KernelIdeal.AllReduce
-- ==== Proof.Access.lean ====
/-
  Loads and stores against buffers and slots owned at what they read.

  A store through a memref, or through the slot buffer around a slot, is stated by what the owner reads
  afterwards: the stored value on the rectangle, the old value off it.
-/
module

public import proofs.«01_k».proof.Proof.Protocol
public import Idealize.ShloMosaic.Rules.Step

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The variants of the launch: none. -/
abbrev 𝒱₀ : Variants := Variants.none

/-- Running a program of the kernel on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Whole

variable (c : Dev nD) {s : Shape} {e : EltTy} {m : Memref sig .tc .vmem s e} {r : Rect s} {α : Type}

/-- A load from an owned memref. -/
theorem own_load {Q : α → sProp 𝕄} {hl : m.view.LoadsAt r.toLoadRect} {k : (r.shape.Idx → Elt F e) → Prog (TpuEff nD τ sig (Elt F) Λ₀ .tc) α}
    {q : PosShare TreeShare} {X : s.Idx → Elt F e} :
    (owns (c : Thread nD τ) m q X : sProp 𝕄)
      ⊢ iprop((owns (c : Thread nD τ) m q X -∗ run c (k fun j => X (r.emb j)) Q) -∗ run c (.op (.load m r.toLoadRect hl) k) Q) := by
  unfold owns
  iintro ⟨%f, %hf, H⟩ Hk
  iapply (wp_load_rect 𝒱₀ (c : Thread nD τ) none Set.univ (m := m) (r := r) (View.set_slice_subset _ r)) $$ H
  iintro H
  have hv : (m.access r).read (Elt F) f = fun j => X (r.emb j) := by rw [← hf]; rfl
  rw [hv]
  iapply Hk
  iexists f
  isplitr; · ipureintro; exact hf
  iexact H

/-- A store to an owned memref. -/
theorem own_store {Q : α → sProp 𝕄} {w : r.shape.Idx → Elt F e} {hx : (m.access r).Stores Finset.univ} {hm : Finset.univ = Finset.univ ∨ ∀ a, r.stride a = 1}
    {k : PUnit → Prog (TpuEff nD τ sig (Elt F) Λ₀ .tc) α} {X X' : s.Idx → Elt F e}
    (h1 : ∀ j, X' (r.emb j) = w j) (h2 : ∀ i, i ∉ r.set → X' i = X i) :
    (owns (c : Thread nD τ) m fullShare X : sProp 𝕄)
      ⊢ iprop((owns (c : Thread nD τ) m fullShare X' -∗ run c (k ⟨⟩) Q) -∗ run c (.op (.store m r w Finset.univ hx hm) k) Q) := by
  unfold owns
  iintro ⟨%f, %hf, H⟩ Hk
  iapply (wp_store 𝒱₀ (c : Thread nD τ) none Set.univ (m := m) (r := r) (View.set_slice_subset _ r)) $$ H
  iintro H
  iapply Hk
  iexists _
  isplitr [H]; rotate_left 1; · iexact H
  ipureintro
  funext i
  by_cases hi : i ∈ r.set
  · rw [← Rect.map_emb_univ] at hi
    obtain ⟨j, -, rfl⟩ := Finset.mem_map.mp hi
    rw [h1]
    exact View.read_slice_write_emb r f w (Finset.mem_univ j)
  · rw [h2 i hi, ← hf]
    exact View.read_slice_write_of_not_mem r f w Finset.univ (by rw [Rect.map_emb_univ]; exact hi)

end Whole

/-! ## Slots -/

/-- Where element `x` of a slot sits in its slab. -/
abbrev rsh : S2x128x256.Idx ≃ (slab 0).shape.Idx := Shape.reshapeEquiv squeezes_S1x2x128x256_S2x128x256.numel_eq

section Slots

variable (c : Dev nD) (M : Memref sig .tc .vmem S6x2x128x256 .bf16) (r : Fin 6) {α : Type}

theorem slot_set : (slot M r).view.set = (slab r).set.map M.view.emb := by
  show ((M.view.slice (slab r)).reshape _ _).set = _
  rw [View.set_reshape, View.set_slice]

/-- A load, through the slot buffer, of part of a slot: the owner keeps the slot. -/
theorem slot_load_part {Q : α → sProp 𝕄} {q : Rect S6x2x128x256} (hq : q.set ⊆ (slab r).set) {hl : M.view.LoadsAt q.toLoadRect}
    {k : (q.shape.Idx → Elt F .bf16) → Prog (TpuEff nD τ sig (Elt F) Λ₀ .tc) α} {X : SlotV F} :
    (owns (c : Thread nD τ) (slot M r) fullShare X : sProp 𝕄)
      ⊢ iprop((∀ v, owns (c : Thread nD τ) (slot M r) fullShare X -∗ run c (k v) Q) -∗ run c (.op (.load M q.toLoadRect hl) k) Q) := by
  unfold owns
  iintro ⟨%f, %hf, H⟩ Hk
  iapply (wp_load_rect 𝒱₀ (c : Thread nD τ) none Set.univ (m := M) (r := q)
    (by rw [slot_set, View.set_slice]; exact Finset.map_subset_map.mpr hq)) $$ H
  iintro H
  iapply Hk
  iexists f
  isplitr; · ipureintro; exact hf
  iexact H

/-- A load, through the slot buffer, of a whole slot. -/
theorem slot_load {Q : α → sProp 𝕄} {hl : M.view.LoadsAt (slab r).toLoadRect}
    {k : ((slab r).shape.Idx → Elt F .bf16) → Prog (TpuEff nD τ sig (Elt F) Λ₀ .tc) α} {X : SlotV F} :
    (owns (c : Thread nD τ) (slot M r) fullShare X : sProp 𝕄)
      ⊢ iprop((owns (c : Thread nD τ) (slot M r) fullShare X -∗ run c (k fun j => X (rsh.symm j)) Q)
        -∗ run c (.op (.load M (slab r).toLoadRect hl) k) Q) := by
  unfold owns
  iintro ⟨%f, %hf, H⟩ Hk
  iapply (wp_load_rect 𝒱₀ (c : Thread nD τ) none Set.univ (m := M) (r := slab r)
    (by rw [slot_set, View.set_slice])) $$ H
  iintro H
  have hv : (M.access (slab r)).read (Elt F) f = fun j => X (rsh.symm j) := by
    funext j
    have := congrFun hf (rsh.symm j)
    rw [← this]
    show (M.access (slab r)).read (Elt F) f j = (M.access (slab r)).read (Elt F) f (rsh (rsh.symm j))
    rw [Equiv.apply_symm_apply]
  rw [hv]
  iapply Hk
  iexists f
  isplitr; · ipureintro; exact hf
  iexact H

/-- A store, through the slot buffer, to part of a slot. -/
theorem slot_store {Q : α → sProp 𝕄} {q : Rect S6x2x128x256} (hq : q.set ⊆ (slab r).set) {w : q.shape.Idx → Elt F .bf16}
    {hx : (M.access q).Stores Finset.univ} {hm : Finset.univ = Finset.univ ∨ ∀ a, q.stride a = 1}
    {k : PUnit → Prog (TpuEff nD τ sig (Elt F) Λ₀ .tc) α} {X X' : SlotV F}
    (h1 : ∀ x j, (slab r).emb (rsh x) = q.emb j → X' x = w j) (h2 : ∀ x, (slab r).emb (rsh x) ∉ q.set → X' x = X x) :
    (owns (c : Thread nD τ) (slot M r) fullShare X : sProp 𝕄)
      ⊢ iprop((owns (c : Thread nD τ) (slot M r) fullShare X' -∗ run c (k ⟨⟩) Q)
        -∗ run c (.op (.store M q w Finset.univ hx hm) k) Q) := by
  unfold owns
  iintro ⟨%f, %hf, H⟩ Hk
  iapply (wp_store 𝒱₀ (c : Thread nD τ) none Set.univ (m := M) (r := q)
    (by rw [slot_set]; exact (View.set_slice M.view q).trans_subset (Finset.map_subset_map.mpr hq))) $$ H
  iintro H
  iapply Hk
  iexists _
  isplitr [H]; rotate_left 1; · iexact H
  ipureintro
  funext x
  show M.view.read (Elt F) ((M.view.slice q).write (Elt F) f w Finset.univ) ((slab r).emb (rsh x)) = X' x
  by_cases hi : (slab r).emb (rsh x) ∈ q.set
  · have hi' := hi
    rw [← Rect.map_emb_univ] at hi'
    obtain ⟨j, -, hj⟩ := Finset.mem_map.mp hi'
    rw [h1 x j hj.symm, ← hj]
    exact View.read_slice_write_emb q f w (Finset.mem_univ j)
  · rw [h2 x hi, ← hf]
    exact View.read_slice_write_of_not_mem q f w Finset.univ (by rw [Rect.map_emb_univ]; exact hi)

/-- A store, through the slot buffer, to a whole slot. -/
theorem slot_store_whole {Q : α → sProp 𝕄} {w : (slab r).shape.Idx → Elt F .bf16}
    {hx : (M.access (slab r)).Stores Finset.univ} {hm : Finset.univ = Finset.univ ∨ ∀ a, (slab r).stride a = 1}
    {k : PUnit → Prog (TpuEff nD τ sig (Elt F) Λ₀ .tc) α} {X : SlotV F} :
    (owns (c : Thread nD τ) (slot M r) fullShare X : sProp 𝕄)
      ⊢ iprop((owns (c : Thread nD τ) (slot M r) fullShare (fun x => w (rsh x)) -∗ run c (k ⟨⟩) Q)
        -∗ run c (.op (.store M (slab r) w Finset.univ hx hm) k) Q) :=
  slot_store c M r (Finset.Subset.refl _) (fun x j h => by rw [(slab r).emb.injective h])
    (fun x h => absurd (by rw [← Rect.map_emb_univ]; exact Finset.mem_map_of_mem _ (Finset.mem_univ _)) h)

end Slots

end Cert.KernelIdeal.AllReduce
-- ==== Proof.Program.lean ====
/-
  The kernel's body as a list of moves.

  The body signals the three partners and waits for them, loads the operands, stores the four blocks of its
  partial output with their narrowed copies in the send slots, starts the two copies of step 0, folds in what
  each partner sent, starting the copy of the next step after each of the first four folds, and waits for its
  own copies at the end. `body_eq` says that this is the printed body.
-/
module

public import proofs.«01_k».proof.Proof.Access
public import proofs.«01_k».proof.Proof.Gen.KernelIdeal.Skeleton

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL.Sem

variable {F : FTy → Type} [FloatOps F]

/-! ## What one device computes -/

/-- The three projections of one batch row: `x · [Wq | Wk | Wv]`. -/
def proj (wq : Vec F S512x512 .f32) (wk wv : Vec F S512x128 .f32) (x : Vec F S1x128x512 .f32) : FVec F S128x768 .f32 :=
  matmul dot_S128x512_S512x768_S128x768_1_0_0_1_n_n none (shapeCast S128x512 x shapeCasts_S1x128x512_S128x512)
    (concatenate S512x768 1 [⟨S512x512, shapeCast S512x512 wq shapeCasts_S512x512_S512x512⟩,
      ⟨S512x128, shapeCast S512x128 wk shapeCasts_S512x128_S512x128⟩, ⟨S512x128, shapeCast S512x128 wv shapeCasts_S512x128_S512x128⟩]
      concatenates_S512x512_S512x128_S512x128_S512x768_d1) (constant S128x768 .f32 0x00000000#32)

/-- The scores of one head, scaled. -/
def scores (q k : FVec F S128x64 .f32) : FVec F S128x128 .f32 :=
  mulf (matmul dot_S128x64_S128x64_S128x128_1_1_0_0_n_n none q k (constant S128x128 .f32 0x00000000#32))
    (broadcast S128x128 (Scalar.ofBits .f32 0x3E000000#32))

/-- The exponentials of scores, each row shifted by its maximum. -/
def expo (s : FVec F S128x128 .f32) : FVec F S128x128 .f32 :=
  exp (subf s (broadcastTo S128x128 (shapeCast S128x1 (multiReduction .maximumf [1] S128 s 0xFF800000#32 reduces_S128x128_S128 (.inl rfl) rfl)
    shapeCasts_S128_S128x1) broadcasts_S128x1_S128x128))

/-- One head from its scores: the weighted sum of the values over the sum of the weights. -/
def weigh (p : FVec F S128x128 .f32) (v : FVec F S128x64 .f32) : FVec F S128x64 .f32 :=
  divf (matmul dot_S128x128_S128x64_S128x64_1_0_0_1_n_n none p v (constant S128x64 .f32 0x00000000#32))
    (broadcastTo S128x64 (shapeCast S128x1 (multiReduction .add [1] S128 p 0x00000000#32 reduces_S128x128_S128 (.inl rfl) rfl)
      shapeCasts_S128_S128x1) broadcasts_S128x1_S128x64)

/-- One head. -/
def head (q k v : FVec F S128x64 .f32) : FVec F S128x64 .f32 := weigh (expo (scores q k)) v

/-- The eight heads of one batch row, side by side: four to each key and value head. -/
def attn (z : FVec F S128x768 .f32) : FVec F S128x512 .f32 :=
  concatenate S128x512 1 [
    ⟨S128x64, head (extractStridedSlice S128x64 ![0, 0] z slices_S128x768_o0_0_S128x64)
      (extractStridedSlice S128x64 ![0, 512] z slices_S128x768_o0_512_S128x64) (extractStridedSlice S128x64 ![0, 640] z slices_S128x768_o0_640_S128x64)⟩,
    ⟨S128x64, head (extractStridedSlice S128x64 ![0, 64] z slices_S128x768_o0_64_S128x64)
      (extractStridedSlice S128x64 ![0, 512] z slices_S128x768_o0_512_S128x64) (extractStridedSlice S128x64 ![0, 640] z slices_S128x768_o0_640_S128x64)⟩,
    ⟨S128x64, head (extractStridedSlice S128x64 ![0, 128] z slices_S128x768_o0_128_S128x64)
      (extractStridedSlice S128x64 ![0, 512] z slices_S128x768_o0_512_S128x64) (extractStridedSlice S128x64 ![0, 640] z slices_S128x768_o0_640_S128x64)⟩,
    ⟨S128x64, head (extractStridedSlice S128x64 ![0, 192] z slices_S128x768_o0_192_S128x64)
      (extractStridedSlice S128x64 ![0, 512] z slices_S128x768_o0_512_S128x64) (extractStridedSlice S128x64 ![0, 640] z slices_S128x768_o0_640_S128x64)⟩,
    ⟨S128x64, head (extractStridedSlice S128x64 ![0, 256] z slices_S128x768_o0_256_S128x64)
      (extractStridedSlice S128x64 ![0, 576] z slices_S128x768_o0_576_S128x64) (extractStridedSlice S128x64 ![0, 704] z slices_S128x768_o0_704_S128x64)⟩,
    ⟨S128x64, head (extractStridedSlice S128x64 ![0, 320] z slices_S128x768_o0_320_S128x64)
      (extractStridedSlice S128x64 ![0, 576] z slices_S128x768_o0_576_S128x64) (extractStridedSlice S128x64 ![0, 704] z slices_S128x768_o0_704_S128x64)⟩,
    ⟨S128x64, head (extractStridedSlice S128x64 ![0, 384] z slices_S128x768_o0_384_S128x64)
      (extractStridedSlice S128x64 ![0, 576] z slices_S128x768_o0_576_S128x64) (extractStridedSlice S128x64 ![0, 704] z slices_S128x768_o0_704_S128x64)⟩,
    ⟨S128x64, head (extractStridedSlice S128x64 ![0, 448] z slices_S128x768_o0_448_S128x64)
      (extractStridedSlice S128x64 ![0, 576] z slices_S128x768_o0_576_S128x64) (extractStridedSlice S128x64 ![0, 704] z slices_S128x768_o0_704_S128x64)⟩]
    concatenates_S128x64_S128x64_S128x64_S128x64_S128x64_S128x64_S128x64_S128x64_S128x512_d1

theorem slices_cols (h : Fin 2) : S512x512.Slices ![0, 256 * h.val] S512x256 := by
  fin_cases h
  · exact slices_S512x512_o0_0_S512x256
  · exact slices_S512x512_o0_256_S512x256

/-- One block of the partial output: one batch row, one column half. -/
def blk (h : Fin 2) (a : FVec F S128x512 .f32) (wo : Vec F S512x512 .f32) : FVec F S128x256 .f32 :=
  matmul dot_S128x512_S512x256_S128x256_1_0_0_1_n_n none a
    (extractStridedSlice S512x256 ![0, 256 * h.val] (shapeCast S512x512 wo shapeCasts_S512x512_S512x512) (slices_cols h))
    (constant S128x256 .f32 0x00000000#32)

/-- A half of the output with a received slot added. -/
def fold (v : Vec F S2x128x256 .f32) (w : Vec F S1x2x128x256 .bf16) : FVec F S2x128x256 .f32 :=
  addf (shapeCast S2x128x256 v shapeCasts_S2x128x256_S2x128x256)
    (extf .f32 (shapeCast S2x128x256 w shapeCasts_S1x2x128x256_S2x128x256) bitsLt_bf16_f32)

/-! ## The rectangles -/

theorem inb_half (h : Fin 2) : ∀ a, (![0, 0, 256 * h.val] : Fin 3 → Nat) a + S2x128x256.size a ≤ S2x128x512.size a := by
  revert h; decide
theorem inb_blk (b h : Fin 2) : ∀ a, (![b.val, 0, 256 * h.val] : Fin 3 → Nat) a + S1x128x256.size a ≤ S2x128x512.size a := by
  revert b h; decide
theorem inb_row (b : Fin 2) : ∀ a, (![b.val, 0, 0] : Fin 3 → Nat) a + S1x128x512.size a ≤ S2x128x512.size a := by
  revert b; decide
theorem inb_qtr (r : Fin 6) (b : Fin 2) : ∀ a, (![r.val, b.val, 0, 0] : Fin 4 → Nat) a + S1x1x128x256.size a ≤ S6x2x128x256.size a := by
  revert r b; decide

/-- A column half of the output. -/
abbrev half (h : Fin 2) : Rect S2x128x512 := Rect.unit (s := S2x128x512) ![0, 0, 256 * h.val] S2x128x256.size (inb_half h)
/-- One batch row of a column half of the output. -/
abbrev blkR (b h : Fin 2) : Rect S2x128x512 := Rect.unit (s := S2x128x512) ![b.val, 0, 256 * h.val] S1x128x256.size (inb_blk b h)
/-- One batch row of the input. -/
abbrev rowR (b : Fin 2) : Rect S2x128x512 := Rect.unit (s := S2x128x512) ![b.val, 0, 0] S1x128x512.size (inb_row b)
/-- One batch row of a slot. -/
abbrev qtr (r : Fin 6) (b : Fin 2) : Rect S6x2x128x256 := Rect.unit (s := S6x2x128x256) ![r.val, b.val, 0, 0] S1x1x128x256.size (inb_qtr r b)

theorem words_slab (r : Fin 6) : (slab r).WholeWords (EltTy.packing .bf16) := by
  fin_cases r
  · exact wordsbf16_S6x2x128x256_S1x2x128x256_0_0_0_0
  · exact wordsbf16_S6x2x128x256_S1x2x128x256_1_0_0_0
  · exact wordsbf16_S6x2x128x256_S1x2x128x256_2_0_0_0
  · exact wordsbf16_S6x2x128x256_S1x2x128x256_3_0_0_0
  · exact wordsbf16_S6x2x128x256_S1x2x128x256_4_0_0_0
  · exact wordsbf16_S6x2x128x256_S1x2x128x256_5_0_0_0

theorem comm_words (r : Fin 6) : (comm r).view.WordExact :=
  ((Memref.isWhole_whole cc0_scratch0).wordExact_slice rfl _ (words_slab r)).reshape _ _
theorem send_words (r : Fin 6) : (send r).view.WordExact :=
  ((Memref.isWhole_whole cc0_scratch1).wordExact_slice rfl _ (words_slab r)).reshape _ _

theorem send_stores {q : Rect S6x2x128x256} (hn : 0 < q.shape.numel) (h : q.PackedRows (EltTy.packing .bf16)) :
    (sendM.access q).Stores Finset.univ :=
  View.stores_vmem hn ((Memref.isWhole_whole cc0_scratch1).storeExact_slice rfl _ h) fun _ => rfl

/-! ## The moves -/

variable (m : Memref sig .tc .vmem S2x128x512 .f32)

/-- A list of moves. -/
abbrev Moves (F : FTy → Type) [FloatOps F] : Type 1 := Prog (TpuEff nD τ sig (Elt F) Λ₀ .tc) PUnit

/-- Store one block of the partial output, and its narrowed copy into the send slot of the half's first trade. -/
def putP (r : Fin 6) (b h : Fin 2) (x : FVec F S128x256 .f32) (hp : (qtr r b).PackedRows (EltTy.packing .bf16)) (κ : Moves F) : Moves F :=
  .op (.load m (blkR b h).toLoadRect (View.loadsAt_vmem h_S1x128x256)) fun _ =>
  .op (.store m (blkR b h) (shapeCast S1x128x256 x shapeCasts_S128x256_S1x128x256) Finset.univ
    (View.stores_vmem_bits_univ h_S1x128x256 rfl) (.inl rfl)) fun _ =>
  .op (.load sendM (qtr r b).toLoadRect (View.loadsAt_vmem h_S1x1x128x256)) fun _ =>
  .op (.store sendM (qtr r b) (shapeCast S1x1x128x256 (truncf .bf16 x bitsLt_bf16_f32) shapeCasts_S128x256_S1x1x128x256) Finset.univ
    (send_stores h_S1x1x128x256 hp) (.inl rfl)) fun _ => κ

/-- Start the copy of trade `r`, to device `d`. -/
def copyP (r : Fin 6) (d : Dev nD) (κ : Moves F) : Moves F :=
  .op (.enqueueDma (send r) (.remote (Dev.tc d) (comm r) (.dma (sendS r))) (.dma (recvS r)) (send_words r) (comm_words r)
    ⟨⟨rfl, Or.inl rfl⟩, trivial⟩) fun _ => κ

/-- Wait for what the partner sent in trade `r` and add it to the half. -/
def foldP (r : Fin 6) (κ : FVec F S2x128x256 .f32 → Moves F) : Moves F :=
  .op (.waitDma2 (recvS r) (send r) (comm r) (send_words r) (comm_words r)) fun _ =>
  .op (.load m (half (hf r)).toLoadRect (View.loadsAt_vmem h_S2x128x256)) fun v =>
  .op (.load commM (slab r).toLoadRect (View.loadsAt_vmem h_S1x2x128x256)) fun w =>
  .op (.load m (half (hf r)).toLoadRect (View.loadsAt_vmem h_S2x128x256)) fun _ =>
  .op (.store m (half (hf r)) (fold v w) Finset.univ (View.stores_vmem_bits_univ h_S2x128x256 rfl) (.inl rfl)) fun _ => κ (fold v w)

/-- Fill the send slot of trade `r` with the narrowed half `x` and start its copy, to device `d`. -/
def nextP (r : Fin 6) (hp : (slab r).PackedRows (EltTy.packing .bf16)) (d : Dev nD) (x : FVec F S2x128x256 .f32) (κ : Moves F) : Moves F :=
  .op (.load sendM (slab r).toLoadRect (View.loadsAt_vmem h_S1x2x128x256)) fun _ =>
  .op (.store sendM (slab r) (shapeCast S1x2x128x256 (truncf .bf16 x bitsLt_bf16_f32) shapeCasts_S2x128x256_S1x2x128x256) Finset.univ
    (send_stores h_S1x2x128x256 hp) (.inl rfl)) fun _ => copyP r d κ

/-- Wait for the own copy of trade `r`. -/
def sentP (r : Fin 6) (κ : Moves F) : Moves F :=
  .op (.waitDma2 (sendS r) (comm r) (send r) (comm_words r) (send_words r)) fun _ => κ

/-- The first part: the partial output, stored, and its copies of step 0 started. -/
def firstP (d : Dev nD) (a0 a1 : FVec F S128x512 .f32) (wo : Vec F S512x512 .f32) (κ : Moves F) : Moves F :=
  putP m 0 0 0 (blk 0 a0 wo) packedbf16_S6x2x128x256_S1x1x128x256_0_0_0_0 <|
  putP m 0 1 0 (blk 0 a1 wo) packedbf16_S6x2x128x256_S1x1x128x256_0_1_0_0 <|
  copyP 0 ⟨k0_dev4 d, k0_dev4_lt d⟩ <|
  putP m 1 0 1 (blk 1 a0 wo) packedbf16_S6x2x128x256_S1x1x128x256_1_0_0_0 <|
  putP m 1 1 1 (blk 1 a1 wo) packedbf16_S6x2x128x256_S1x1x128x256_1_1_0_0 <|
  copyP 1 ⟨k0_dev5 d, k0_dev5_lt d⟩ κ

/-- The second part: six folds, the first four each followed by a copy of the next step. -/
def foldsP (d : Dev nD) (κ : Moves F) : Moves F :=
  foldP m 0 fun x => nextP 2 packedbf16_S6x2x128x256_S1x2x128x256_2_0_0_0 ⟨k0_dev6 d, k0_dev6_lt d⟩ x <|
  foldP m 1 fun x => nextP 3 packedbf16_S6x2x128x256_S1x2x128x256_3_0_0_0 ⟨k0_dev7 d, k0_dev7_lt d⟩ x <|
  foldP m 2 fun x => nextP 4 packedbf16_S6x2x128x256_S1x2x128x256_4_0_0_0 ⟨k0_dev8 d, k0_dev8_lt d⟩ x <|
  foldP m 3 fun x => nextP 5 packedbf16_S6x2x128x256_S1x2x128x256_5_0_0_0 ⟨k0_dev9 d, k0_dev9_lt d⟩ x <|
  foldP m 4 fun _ => foldP m 5 fun _ => κ

/-- The last part: the waits for the own copies. -/
def lastP : Moves F := sentP 0 <| sentP 1 <| sentP 2 <| sentP 3 <| sentP 4 <| sentP 5 <| .ret ⟨⟩

/-- The whole body over its six staged operands. -/
def bodyP (m0 : Memref sig .tc .vmem S2x128x512 .f32) (m1 m2 : Memref sig .tc .vmem S512x512 .f32)
    (m3 m4 : Memref sig .tc .vmem S512x128 .f32) : Moves F :=
  .op .deviceId fun d =>
  .op (.semSignal (Dev.tc (⟨k0_dev1 d, k0_dev1_lt d⟩ : Dev nD)) barS 1) fun _ =>
  .op (.semSignal (Dev.tc (⟨k0_dev2 d, k0_dev2_lt d⟩ : Dev nD)) barS 1) fun _ =>
  .op (.semSignal (Dev.tc (⟨k0_dev3 d, k0_dev3_lt d⟩ : Dev nD)) barS 1) fun _ =>
  .op (.semWait barS 3) fun _ =>
  .op (.load m1 (Rect.unit (s := S512x512) ![0, 0] S512x512.size inb_S512x512_S512x512_0_0).toLoadRect (View.loadsAt_vmem h_S512x512)) fun wq =>
  .op (.load m3 (Rect.unit (s := S512x128) ![0, 0] S512x128.size inb_S512x128_S512x128_0_0).toLoadRect (View.loadsAt_vmem h_S512x128)) fun wk =>
  .op (.load m4 (Rect.unit (s := S512x128) ![0, 0] S512x128.size inb_S512x128_S512x128_0_0).toLoadRect (View.loadsAt_vmem h_S512x128)) fun wv =>
  .op (.load m0 (rowR 0).toLoadRect (View.loadsAt_vmem h_S1x128x512)) fun x0 =>
  .op (.load m0 (rowR 1).toLoadRect (View.loadsAt_vmem h_S1x128x512)) fun x1 =>
  .op (.load m2 (Rect.unit (s := S512x512) ![0, 0] S512x512.size inb_S512x512_S512x512_0_0).toLoadRect (View.loadsAt_vmem h_S512x512)) fun wo =>
  firstP m d (attn (proj wq wk wv x0)) (attn (proj wq wk wv x1)) wo <| foldsP m d lastP

set_option maxRecDepth 65536 in
/-- The printed body is this list of moves. -/
theorem body_eq (m0 : Memref sig .tc .vmem S2x128x512 .f32) (m1 m2 : Memref sig .tc .vmem S512x512 .f32)
    (m3 m4 : Memref sig .tc .vmem S512x128 .f32) (h0 h1 h2 h3 h4 h5) :
    cc0__body (F := F) m0 h0 m1 h1 m2 h2 m3 h3 m4 h4 m h5 commM (Memref.isWhole_whole _) sendM (Memref.isWhole_whole _) cc0_scratch2 cc0_scratch3
      = bodyP m m0 m1 m2 m3 m4 := by
  rw [Gen.cc0__body_eq_skeleton]
  rfl

end Cert.KernelIdeal.AllReduce
-- ==== Proof.Rows.lean ====
/-
  The output by its two column halves and a slot by its two batch rows.

  What the kernel stores is a column half, one batch row of a column half, or one batch row of a slot; each store
  is stated here by the halves and rows it leaves.
-/
module

public import proofs.«01_k».proof.Proof.Program
public import Idealize.ShloMosaic.Lib.PointwiseCore

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A column half of the output. -/
abbrev HalfV (F : FTy → Type) := S2x128x256.Idx → Elt F .f32

/-! ## Two halves joined -/

/-- The output whose column halves are `A 0` and `A 1`. -/
def join {α : Type} (A : Fin 2 → S2x128x256.Idx → α) : S2x128x512.Idx → α := fun x =>
  A ⟨(x 2).val / 256, by have : (x 2).val < 512 := (x 2).isLt; omega⟩ (ix3 (n0 := 2) (n1 := 128) (n2 := 256) (x 0) (x 1) ⟨(x 2).val % 256, by omega⟩)

theorem join_at {α : Type} (A : Fin 2 → S2x128x256.Idx → α) (h : Fin 2) (j : S2x128x256.Idx) (x : S2x128x512.Idx)
    (e0 : (x 0).val = (j 0).val) (e1 : (x 1).val = (j 1).val) (e2 : (x 2).val = 256 * h.val + (j 2).val) : join A x = A h j := by
  have hj : (j 2).val < 256 := (j 2).isLt
  have eh : (⟨(x 2).val / 256, by have : (x 2).val < 512 := (x 2).isLt; omega⟩ : Fin 2) = h :=
    Fin.ext (by show (x 2).val / 256 = h.val; omega)
  unfold join
  rw [eh]
  refine congrArg (A h) (funext fun a => ?_)
  match a with
  | ⟨0, _⟩ => exact Fin.ext e0
  | ⟨1, _⟩ => exact Fin.ext e1
  | ⟨2, _⟩ => exact Fin.ext (by show (x 2).val % 256 = (j 2).val; omega)

/-- Any output is the join of its halves. -/
theorem eq_join {α : Type} (X : S2x128x512.Idx → α) : ∃ A : Fin 2 → S2x128x256.Idx → α, X = join A := by
  refine ⟨fun h j => X ((half h).emb j), ?_⟩
  funext x
  have hx : (x 2).val < 512 := (x 2).isLt
  unfold join
  refine congrArg X (funext fun a => ?_)
  match a with
  | ⟨0, _⟩ => exact Fin.ext (by show (x 0).val = 0 + 1 * (x 0).val; omega)
  | ⟨1, _⟩ => exact Fin.ext (by show (x 1).val = 0 + 1 * (x 1).val; omega)
  | ⟨2, _⟩ => exact Fin.ext (by show (x 2).val = 256 * ((x 2).val / 256) + 1 * ((x 2).val % 256); omega)

theorem join_half {α : Type} (A : Fin 2 → S2x128x256.Idx → α) (h : Fin 2) (j : S2x128x256.Idx) : join A ((half h).emb j) = A h j :=
  join_at A h j _ (by show 0 + 1 * (j 0).val = _; omega) (by show 0 + 1 * (j 1).val = _; omega)
    (by show 256 * h.val + 1 * (j 2).val = _; omega)

theorem mem_half (h : Fin 2) (i : S2x128x512.Idx) (hi : (i 2).val / 256 = h.val) : i ∈ (half h).set := by
  refine Rect.mem_set_unit.mpr fun a => ?_
  match a with
  | ⟨0, _⟩ => exact ⟨Nat.zero_le _, by have : (i 0).val < 2 := (i 0).isLt; show (i 0).val < 0 + 2; omega⟩
  | ⟨1, _⟩ => exact ⟨Nat.zero_le _, by have : (i 1).val < 128 := (i 1).isLt; show (i 1).val < 0 + 128; omega⟩
  | ⟨2, _⟩ => exact ⟨by show 256 * h.val ≤ (i 2).val; omega, by show (i 2).val < 256 * h.val + 256; omega⟩

theorem mem_blk (b h : Fin 2) (i : S2x128x512.Idx) (h0 : (i 0).val = b.val) (hi : (i 2).val / 256 = h.val) : i ∈ (blkR b h).set := by
  refine Rect.mem_set_unit.mpr fun a => ?_
  match a with
  | ⟨0, _⟩ => exact ⟨by show b.val ≤ (i 0).val; omega, by show (i 0).val < b.val + 1; omega⟩
  | ⟨1, _⟩ => exact ⟨Nat.zero_le _, by have : (i 1).val < 128 := (i 1).isLt; show (i 1).val < 0 + 128; omega⟩
  | ⟨2, _⟩ => exact ⟨by show 256 * h.val ≤ (i 2).val; omega, by show (i 2).val < 256 * h.val + 256; omega⟩

theorem join_update_ne {α : Type} (A : Fin 2 → S2x128x256.Idx → α) (h : Fin 2) (w : S2x128x256.Idx → α) (i : S2x128x512.Idx)
    (hi : (i 2).val / 256 ≠ h.val) : join (Function.update A h w) i = join A i := by
  unfold join
  rw [Function.update_of_ne]
  intro e
  exact hi (congrArg Fin.val e)

/-! ## Rows -/

/-- A half with batch row `b` replaced. -/
def setRow {α : Type} (b : Fin 2) (w : S128x256.Idx → α) (X : S2x128x256.Idx → α) : S2x128x256.Idx → α := fun x =>
  if (x 0).val = b.val then w (ix2 (n0 := 128) (n1 := 256) (x 1) (x 2)) else X x

/-- A half by its two batch rows. -/
def rows {α : Type} (w : Fin 2 → S128x256.Idx → α) : S2x128x256.Idx → α := fun x => w (x 0) (ix2 (n0 := 128) (n1 := 256) (x 1) (x 2))

theorem setRow_setRow {α : Type} (w0 w1 : S128x256.Idx → α) (X : S2x128x256.Idx → α) : setRow 1 w1 (setRow 0 w0 X) = rows ![w0, w1] := by
  funext x
  unfold setRow rows
  have hx : (x 0).val < 2 := (x 0).isLt
  by_cases h1 : (x 0).val = (1 : Fin 2).val
  · rw [if_pos h1, show x 0 = (1 : Fin 2) from Fin.ext h1]; rfl
  · have h0 : (x 0).val = (0 : Fin 2).val := by
      have : ((1 : Fin 2).val : ℕ) = 1 := rfl
      have : ((0 : Fin 2).val : ℕ) = 0 := rfl
      omega
    rw [if_neg h1, if_pos h0, show x 0 = (0 : Fin 2) from Fin.ext h0]; rfl

theorem cast1 {α : Type} (x : S128x256.Idx → α) (j : S1x128x256.Idx) :
    shapeCast S1x128x256 x shapeCasts_S128x256_S1x128x256 j = x (ix2 (n0 := 128) (n1 := 256) (j 1) (j 2)) := by pointwise

theorem cast11 {α : Type} (x : S128x256.Idx → α) (j : S1x1x128x256.Idx) :
    shapeCast S1x1x128x256 x shapeCasts_S128x256_S1x1x128x256 j = x (ix2 (n0 := 128) (n1 := 256) (j 2) (j 3)) := by pointwise

/-! ## The output's loads and stores -/

section Out

variable (c : Dev nD) (m : Memref sig .tc .vmem S2x128x512 .f32) {α : Type}

theorem half_load (h : Fin 2) {Q : α → sProp 𝕄} {hl : m.view.LoadsAt (half h).toLoadRect}
    {k : (S2x128x256.Idx → Elt F .f32) → Prog (TpuEff nD τ sig (Elt F) Λ₀ .tc) α} {A : Fin 2 → HalfV F} :
    (owns (c : Thread nD τ) m fullShare (join A) : sProp 𝕄)
      ⊢ iprop((owns (c : Thread nD τ) m fullShare (join A) -∗ run c (k (A h)) Q) -∗ run c (.op (.load m (half h).toLoadRect hl) k) Q) := by
  have e : (fun j => join A ((half h).emb j)) = A h := funext fun j => join_half A h j
  have H := own_load (F := F) c (m := m) (r := half h) (hl := hl) (k := k) (q := fullShare) (X := join A) (Q := Q)
  rw [e] at H
  exact H

theorem half_store (h : Fin 2) {Q : α → sProp 𝕄} {w : S2x128x256.Idx → Elt F .f32} {hx : (m.access (half h)).Stores Finset.univ}
    {hm : Finset.univ = Finset.univ ∨ ∀ a, (half h).stride a = 1}
    {k : PUnit → Prog (TpuEff nD τ sig (Elt F) Λ₀ .tc) α} {A : Fin 2 → HalfV F} :
    (owns (c : Thread nD τ) m fullShare (join A) : sProp 𝕄)
      ⊢ iprop((owns (c : Thread nD τ) m fullShare (join (Function.update A h w)) -∗ run c (k ⟨⟩) Q)
        -∗ run c (.op (.store m (half h) w Finset.univ hx hm) k) Q) :=
  own_store c (fun j => (join_half _ h j).trans (congrFun (Function.update_self h w A) j))
    (fun i hi => join_update_ne A h w i fun e => hi (mem_half h i e))

theorem blk_store (b h : Fin 2) {Q : α → sProp 𝕄} {w : S128x256.Idx → Elt F .f32} {hx : (m.access (blkR b h)).Stores Finset.univ}
    {hm : Finset.univ = Finset.univ ∨ ∀ a, (blkR b h).stride a = 1}
    {k : PUnit → Prog (TpuEff nD τ sig (Elt F) Λ₀ .tc) α} {A : Fin 2 → HalfV F} :
    (owns (c : Thread nD τ) m fullShare (join A) : sProp 𝕄)
      ⊢ iprop((owns (c : Thread nD τ) m fullShare (join (Function.update A h (setRow b w (A h)))) -∗ run c (k ⟨⟩) Q)
        -∗ run c (.op (.store m (blkR b h) (shapeCast S1x128x256 w shapeCasts_S128x256_S1x128x256) Finset.univ hx hm) k) Q) := by
  refine own_store c (fun j => ?_) (fun i hi => ?_)
  · have hj0 : (j 0).val < 1 := (j 0).isLt
    rw [join_at _ h (ix3 (n0 := 2) (n1 := 128) (n2 := 256) b (j 1) (j 2)) _ (by show b.val + 1 * (j 0).val = b.val; omega)
      (by show 0 + 1 * (j 1).val = (j 1).val; omega) (by show 256 * h.val + 1 * (j 2).val = 256 * h.val + (j 2).val; omega),
      Function.update_self, cast1]
    unfold setRow
    exact if_pos rfl
  · by_cases e : (i 2).val / 256 = h.val
    · have e0 : (i 0).val ≠ b.val := fun e0 => hi (mem_blk b h i e0 e)
      have eh : (⟨(i 2).val / 256, by have : (i 2).val < 512 := (i 2).isLt; omega⟩ : Fin 2) = h := Fin.ext e
      unfold join
      rw [eh, Function.update_self]
      unfold setRow
      exact if_neg e0
    · exact join_update_ne A h _ i e

end Out

/-! ## A send slot's loads and stores -/

section SendSlot

variable (c : Dev nD) (r : Fin 6) {α : Type}

theorem rsh_val (x : S2x128x256.Idx) : rsh x = Fin.cons (⟨0, Nat.one_pos⟩ : Fin 1) x := Shape.reshapeEquiv_cons_one _ x

theorem qtr_sub (b : Fin 2) : (qtr r b).set ⊆ (slab r).set := by
  intro i hi
  have hi := Rect.mem_set_unit.mp hi
  refine Rect.mem_set_unit.mpr fun a => ?_
  match a with
  | ⟨0, _⟩ => exact hi 0
  | ⟨1, _⟩ => exact ⟨Nat.zero_le _, by have : (i 1).val < 2 := (i 1).isLt; show (i 1).val < 0 + 2; omega⟩
  | ⟨2, _⟩ => exact hi 2
  | ⟨3, _⟩ => exact hi 3

theorem qtr_load (b : Fin 2) {Q : α → sProp 𝕄} {hl : sendM.view.LoadsAt (qtr r b).toLoadRect}
    {k : ((qtr r b).shape.Idx → Elt F .bf16) → Prog (TpuEff nD τ sig (Elt F) Λ₀ .tc) α} {X : SlotV F} :
    (owns (c : Thread nD τ) (send r) fullShare X : sProp 𝕄)
      ⊢ iprop((∀ v, owns (c : Thread nD τ) (send r) fullShare X -∗ run c (k v) Q) -∗ run c (.op (.load sendM (qtr r b).toLoadRect hl) k) Q) :=
  slot_load_part c sendM r (qtr_sub r b)

theorem qtr_store (b : Fin 2) {Q : α → sProp 𝕄} {w : S128x256.Idx → Elt F .bf16} {hx : (sendM.access (qtr r b)).Stores Finset.univ}
    {hm : Finset.univ = Finset.univ ∨ ∀ a, (qtr r b).stride a = 1}
    {k : PUnit → Prog (TpuEff nD τ sig (Elt F) Λ₀ .tc) α} {X : SlotV F} :
    (owns (c : Thread nD τ) (send r) fullShare X : sProp 𝕄)
      ⊢ iprop((owns (c : Thread nD τ) (send r) fullShare (setRow b w X) -∗ run c (k ⟨⟩) Q)
        -∗ run c (.op (.store sendM (qtr r b) (shapeCast S1x1x128x256 w shapeCasts_S128x256_S1x1x128x256) Finset.univ hx hm) k) Q) := by
  refine slot_store c sendM r (qtr_sub r b) (fun x j e => ?_) (fun x hx => ?_)
  · have e1 : 0 + 1 * (x 0).val = b.val + 1 * (j 1).val := by
      have := congrArg (fun i : S6x2x128x256.Idx => (i 1).val) e
      rw [rsh_val] at this
      exact this
    have e2 : 0 + 1 * (x 1).val = 0 + 1 * (j 2).val := by
      have := congrArg (fun i : S6x2x128x256.Idx => (i 2).val) e
      rw [rsh_val] at this
      exact this
    have e3 : 0 + 1 * (x 2).val = 0 + 1 * (j 3).val := by
      have := congrArg (fun i : S6x2x128x256.Idx => (i 3).val) e
      rw [rsh_val] at this
      exact this
    have hj1 : (j 1).val < 1 := (j 1).isLt
    rw [cast11]
    unfold setRow
    rw [if_pos (by omega)]
    refine congrArg w (funext fun a => ?_)
    match a with
    | ⟨0, _⟩ => exact Fin.ext (by show (x 1).val = (j 2).val; omega)
    | ⟨1, _⟩ => exact Fin.ext (by show (x 2).val = (j 3).val; omega)
  · unfold setRow
    refine if_neg fun e0 => hx ?_
    refine Rect.mem_set_unit.mpr fun a => ?_
    rw [rsh_val]
    have hx1 : (x 1).val < 128 := (x 1).isLt
    have hx2 : (x 2).val < 256 := (x 2).isLt
    match a with
    | ⟨0, _⟩ => exact ⟨by show r.val ≤ r.val + 1 * 0; omega, by show r.val + 1 * 0 < r.val + 1; omega⟩
    | ⟨1, _⟩ => exact ⟨by show b.val ≤ 0 + 1 * (x 0).val; omega, by show 0 + 1 * (x 0).val < b.val + 1; omega⟩
    | ⟨2, _⟩ => exact ⟨Nat.zero_le _, by show 0 + 1 * (x 1).val < 0 + 128; omega⟩
    | ⟨3, _⟩ => exact ⟨Nat.zero_le _, by show 0 + 1 * (x 2).val < 0 + 256; omega⟩

end SendSlot

end Cert.KernelIdeal.AllReduce
-- ==== Proof.Trade.lean ====
/-
  The moves of the exchange, one lemma each: the signal to a partner, the wait at the barrier, the copy of
  trade `r`, the wait for what the partner sent, the wait for the own copy.

  A trade is `fresh` before the own copy, `flying` after it, `landed` once the partner's copy has been waited
  for, and `spent` once the own copy has been too.
-/
module

public import proofs.«01_k».proof.Proof.Access

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (S : Fin 6 → Dev nD → SlotV F)

/-! ## What all devices know: the invariants of all cells, and that every barrier cell is open -/

/-- The invariants of all cells at the names `K`, and the first round of every barrier cell. -/
def known (K : GSem nD τ sig → ℕ) : sProp 𝕄 :=
  iprop((bigSep Finset.univ fun c : Dev nD => cellInv ER (Rd S) (K (barCell c)) (barCell c))
    ∗ (bigSep Finset.univ fun p : Fin 6 × Dev nD => cellInv ER (Rd S) (K (sendCell p.1 p.2)) (sendCell p.1 p.2))
    ∗ (bigSep Finset.univ fun p : Fin 6 × Dev nD => cellInv ER (Rd S) (K (recvCell p.1 p.2)) (recvCell p.1 p.2))
    ∗ (bigSep Finset.univ fun c : Dev nD => reached ER (barCell c) 0))

instance known_persistent (K : GSem nD τ sig → ℕ) : BI.Persistent (known S K) := by unfold known; infer_instance

variable {S}

theorem known_bar {K : GSem nD τ sig → ℕ} (c : Dev nD) : known S K ⊢ cellInv ER (Rd S) (K (barCell c)) (barCell c) := by
  have h := bigSep_elim (M := 𝕄) (Finset.mem_univ c) (Φ := fun c : Dev nD => cellInv ER (Rd S) (K (barCell c)) (barCell c))
  exact sep_elim_left.trans h

theorem known_send {K : GSem nD τ sig → ℕ} (r : Fin 6) (c : Dev nD) :
    known S K ⊢ cellInv ER (Rd S) (K (sendCell r c)) (sendCell r c) := by
  have h := bigSep_elim (M := 𝕄) (Finset.mem_univ (r, c))
    (Φ := fun p : Fin 6 × Dev nD => cellInv ER (Rd S) (K (sendCell p.1 p.2)) (sendCell p.1 p.2))
  exact sep_elim_right.trans (sep_elim_left.trans h)

theorem known_recv {K : GSem nD τ sig → ℕ} (r : Fin 6) (c : Dev nD) :
    known S K ⊢ cellInv ER (Rd S) (K (recvCell r c)) (recvCell r c) := by
  have h := bigSep_elim (M := 𝕄) (Finset.mem_univ (r, c))
    (Φ := fun p : Fin 6 × Dev nD => cellInv ER (Rd S) (K (recvCell p.1 p.2)) (recvCell p.1 p.2))
  exact sep_elim_right.trans (sep_elim_right.trans (sep_elim_left.trans h))

theorem known_reached {K : GSem nD τ sig → ℕ} (c : Dev nD) : known S K ⊢ reached ER (barCell c) 0 := by
  have h := bigSep_elim (M := 𝕄) (Finset.mem_univ c) (Φ := fun c : Dev nD => reached ER (barCell c) 0)
  exact sep_elim_right.trans (sep_elim_right.trans (sep_elim_right.trans h))

variable (S)

/-! ## The states of a trade -/

/-- A trade whose copy is still to be started. -/
def fresh (r : Fin 6) (c : Dev nD) : sProp 𝕄 :=
  iprop(atPos ER (sendCell r c) 0 ∅ 0 ∗ reached ER (sendCell r c) 0 ∗ dutyTok ER (sendCell r c) 0 (0 : Fin 3)
    ∗ dutyTok ER (recvCell r (pr (st r) c)) 0 (0 : Fin 3) ∗ atPos ER (recvCell r c) 0 ∅ 0 ∗ cred (tallyAt (recvCell r c) () N))

/-- A trade whose copy is under way. -/
def flying (r : Fin 6) (c : Dev nD) : sProp 𝕄 :=
  iprop(atPos ER (sendCell r c) 0 ∅ 0 ∗ cred (tallyAt (sendCell r c) () N) ∗ atPos ER (recvCell r c) 0 ∅ 0
    ∗ cred (tallyAt (recvCell r c) () N))

/-- A trade whose receive slot has been filled by the partner. -/
def landed (r : Fin 6) (c : Dev nD) : sProp 𝕄 :=
  iprop(atPos ER (sendCell r c) 0 ∅ 0 ∗ cred (tallyAt (sendCell r c) () N) ∗ atPos ER (recvCell r c) 1 ∅ 0
    ∗ owns (c : Thread nD τ) (comm r) fullShare (S r (pr (st r) c)))

/-- A trade that is over: both cells past their round, both slots back. -/
def spent (r : Fin 6) (c : Dev nD) : sProp 𝕄 :=
  iprop(atPos ER (sendCell r c) 1 ∅ 0 ∗ atPos ER (recvCell r c) 1 ∅ 0
    ∗ (∃ X : SlotV F, owns (c : Thread nD τ) (comm r) fullShare X) ∗ (∃ X : SlotV F, owns (c : Thread nD τ) (send r) fullShare X))

variable {S} {K : GSem nD τ sig → ℕ} (c : Dev nD) {α : Type}

/-- What device `c` lends to its partner in trade `r`: its own receive slot, its receive cell open. -/
theorem lend_own (r : Fin 6) : iprop((∃ X : SlotV F, owns (c : Thread nD τ) (comm r) fullShare X) ∗ reached ER (recvCell r c) 0)
    ⊢ (lend r (pr (st r) c) : sProp 𝕄) := by
  unfold lend
  rw [pr_pr]

/-- The signal to the partner of step `k`, with the two receive slots of this step. -/
theorem signal_run {Q : α → sProp 𝕄} (k : Fin 3) {c' : Dev nD} (hc : c' = pr k c) {O : CellTallies nD τ sig Unit} {W : Waits sig Unit}
    {κ : PUnit → Prog (TpuEff nD τ sig (Elt F) Λ₀ .tc) α} :
    iprop(known S K ∗ owes (c : Thread nD τ) (O + oweB k c) W ∗ dutyTok ER (barCell (pr k c)) 0 k
        ∗ lend (F := F) (tr k 0) (pr k c) ∗ lend (F := F) (tr k 1) (pr k c))
      ⊢ iprop((owes (c : Thread nD τ) O W -∗ run c (κ ⟨⟩) Q) -∗ run c (.op (.semSignal (Dev.tc c') barS 1) κ) Q) := by
  subst hc
  iintro ⟨#HK, HO, Ht, Hl0, Hl1⟩ Hk
  iapply (Rounds.wp_signal 𝒱₀ ER (Rd S) (c : Thread nD τ) none (dst := (pr k c : Thread nD τ)) (sem := barS) (r := 0) (d := k)
    (κ := K (barCell (pr k c))) (by rw [duties_bar]; exact Finset.mem_univ _) (amount_bar S (pr k c) k) () O rfl) $$ [HO Ht Hl0 Hl1]
  · isplitr; · iapply (known_bar (pr k c)) $$ HK
    isplitl [HO]; · iexact HO
    isplitl [Ht]; · iexact Ht
    isplitl [Hl0 Hl1]
    · rw [payload_bar]; unfold barPay
      isplitl [Hl0]; · iexact Hl0
      iexact Hl1
    iapply (known_reached (pr k c)) $$ HK
  iexact Hk

/-- The wait at the barrier: the slots of all partners. -/
theorem bar_run {Q : α → sProp 𝕄} {W : Waits sig Unit} {κ : PUnit → Prog (TpuEff nD τ sig (Elt F) Λ₀ .tc) α} :
    iprop(known S K ∗ levAts L lv ∗ cred (tallyAt (barCell c) () 3) ∗ owes (c : Thread nD τ) (owed 0 c) W
        ∗ atPos ER (barCell c) 0 ∅ 0)
      ⊢ iprop(((∃ W, owes (c : Thread nD τ) (owed 0 c) W) ∗ atPos ER (barCell c) 1 ∅ 0
            ∗ (bigSep Finset.univ fun k : Fin 3 => barPay (F := F) k c) -∗ run c (κ ⟨⟩) Q)
          -∗ run c (.op (.semWait barS 3) κ) Q) := by
  iintro ⟨#HK, #HL, Hc, HO, Ha⟩ Hk
  iapply (Rounds.wp_wait_rest_token 𝒱₀ ER (Rd S) (c : Thread nD τ) none (κ := K (barCell c))
      (wpE_semWait_eq 𝒱₀ (c : Thread nD τ) none Set.univ) (Set.mem_univ _) () (O := owed 0 c) (W := W) (R := 0) (m := 0) (T := ∅)
      ((Nat.zero_add 3).trans (expect_bar S c).symm)) $$ [Hc HO Ha]
  · isplitr; · iapply (known_bar c) $$ HK
    isplitl [Hc]; · iexact Hc
    isplitl [HO]; · iexact HO
    isplitr; · iapply (mayWait_bar c); iexact HL
    iexact Ha
  iintro ⟨HO, Ha, -, Hp⟩
  iapply Hk
  isplitl [HO]; · iexists _; iexact HO
  isplitl [Ha]; · iexact Ha
  iapply (Entails.of_eq (rest_bar S c)) $$ Hp

/-- The copy of trade `r` into the partner's receive slot. -/
theorem send_run {Q : α → sProp 𝕄} (r : Fin 6) {c' : Dev nD} (hc : c' = pr (st r) c) {O O' : CellTallies nD τ sig Unit}
    (hO : O' = O + oweR r c) {W : Waits sig Unit}
    {hsc} {hsrc} {hdst} {hsem} {κ : PUnit → Prog (TpuEff nD τ sig (Elt F) Λ₀ .tc) α} :
    iprop(known S K ∗ owes (c : Thread nD τ) O' W ∗ fresh r c ∗ lend (F := F) r c
        ∗ owns (c : Thread nD τ) (send r) fullShare (S r c))
      ⊢ iprop((owes (c : Thread nD τ) O W ∗ flying r c -∗ run c (κ ⟨⟩) Q)
          -∗ run c (.op (.enqueueDma (send r) (.remote (Dev.tc c') (comm r) (.dma (sendS r)) hsc) (.dma (recvS r)) hsrc hdst hsem) κ) Q) := by
  subst hc hO
  unfold fresh lend owns
  iintro ⟨#HK, HO, ⟨HaS, #HrS, HtS, HtR, HaR, HcR⟩, ⟨⟨%X, %fd, -, Hd⟩, #HrR⟩, ⟨%fs, %hfs, Hs⟩⟩ Hk
  iapply (Rounds.wp_send_pointsTo 𝒱₀ ER (Rd S) (c : Thread nD τ) none (c' := (pr (st r) c : Thread nD τ)) (src := send r) (dst := comm r)
      (sS := .dma (sendS r)) (sem := .dma (recvS r)) (q := fullShare) (fs := fs) (κ₁ := K (sendCell r c)) (κ₂ := K (recvCell r (pr (st r) c)))
      (r₁ := 0) (r₂ := 0) (d₁ := 0) (d₂ := 0) (fd := fd)
      (by rw [duties_send]; exact Finset.mem_singleton_self _) (by rw [duties_recv]; exact Finset.mem_singleton_self _)
      () () N rfl (amount_send S c r 0) (amount_recv S (pr (st r) c) r 0) O rfl (W := W)
      (by
        rw [payload_send]
        iintro H; iexists (S r c)
        unfold owns; iexists fs
        isplitr; · ipureintro; exact hfs
        iexact H)
      (by
        rw [payload_recv, pr_pr]
        unfold owns
        iintro H; iexists _
        isplitr [H]; rotate_left 1; · iexact H
        ipureintro
        rw [← hfs]
        exact View.read_write_univ fd _)) $$ [Hs Hd HO HtS HtR]
  · isplitr; · iapply (known_send r c) $$ HK
    isplitr; · iapply (known_recv r (pr (st r) c)) $$ HK
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]; · iexact HO
  unfold flying
  isplitl [HaS]; · iexact HaS
  isplitl [HcS]; · iexact HcS
  isplitl [HaR]; · iexact HaR
  iexact HcR

/-- The wait for the partner's copy of trade `r`, while only later trades are owed. -/
theorem recv_run {Q : α → sProp 𝕄} (r : Fin 6) (n : ℕ) (hn : r.val < n) {W : Waits sig Unit}
    {hsrc} {hdst} {κ : PUnit → Prog (TpuEff nD τ sig (Elt F) Λ₀ .tc) α} :
    iprop(known S K ∗ levAts L lv ∗ owes (c : Thread nD τ) (owed n c) W ∗ flying r c)
      ⊢ iprop(((∃ W, owes (c : Thread nD τ) (owed n c) W) ∗ landed S r c -∗ run c (κ ⟨⟩) Q)
          -∗ run c (.op (.waitDma2 (recvS r) (send r) (comm r) hsrc hdst) κ) Q) := by
  unfold flying
  iintro ⟨#HK, #HL, HO, HaS, HcS, HaR, HcR⟩ Hk
  iapply (Rounds.wp_wait_rest_token 𝒱₀ ER (Rd S) (c : Thread nD τ) none (κ := K (recvCell r c))
      (wpE_waitDma2_eq 𝒱₀ (c : Thread nD τ) none Set.univ (sem := recvS r) (src := send r) (dst := comm r) (hsrc := hsrc) (hdst := hdst)) (Set.mem_univ _) () (O := owed n c) (W := W) (R := 0) (m := 0) (T := ∅)
      ((Nat.zero_add _).trans (expect_recv S c r).symm)) $$ [HcR HO HaR]
  · isplitr; · iapply (known_recv r c) $$ HK
    isplitl [HcR]; · iexact HcR
    isplitl [HO]; · iexact HO
    isplitr; · iapply (mayWait_recv r n hn c); iexact HL
    iexact HaR
  iintro ⟨HO, HaR, -, Hp⟩
  iapply Hk
  isplitl [HO]; · iexists _; iexact HO
  unfold landed
  isplitl [HaS]; · iexact HaS
  isplitl [HcS]; · iexact HcS
  isplitl [HaR]; · iexact HaR
  iapply (Entails.of_eq (rest_recv S c r)) $$ Hp

/-- The wait for the own copy of trade `r`, nothing being owed. -/
theorem sent_run {Q : α → sProp 𝕄} (r : Fin 6) {W : Waits sig Unit}
    {hsrc} {hdst} {κ : PUnit → Prog (TpuEff nD τ sig (Elt F) Λ₀ .tc) α} :
    iprop(known S K ∗ owes (c : Thread nD τ) 0 W ∗ landed S r c)
      ⊢ iprop(((∃ W, owes (c : Thread nD τ) 0 W) ∗ spent r c -∗ run c (κ ⟨⟩) Q)
          -∗ run c (.op (.waitDma2 (sendS r) (comm r) (send r) hsrc hdst) κ) Q) := by
  unfold landed
  iintro ⟨#HK, HO, HaS, HcS, HaR, Hs⟩ Hk
  iapply (Rounds.wp_wait_rest_token 𝒱₀ ER (Rd S) (c : Thread nD τ) none (κ := K (sendCell r c))
      (wpE_waitDma2_eq 𝒱₀ (c : Thread nD τ) none Set.univ (sem := sendS r) (src := comm r) (dst := send r) (hsrc := hsrc) (hdst := hdst)) (Set.mem_univ _) () (O := 0) (W := W) (R := 0) (m := 0) (T := ∅)
      ((Nat.zero_add _).trans (expect_send S c r).symm)) $$ [HcS HO HaS]
  · isplitr; · iapply (known_send r c) $$ HK
    isplitl [HcS]; · iexact HcS
    isplitl [HO]; · iexact HO
    isplitr; · rw [MayWait_zero]; iempintro
    iexact HaS
  iintro ⟨HO, HaS, -, Hp⟩
  iapply Hk
  isplitl [HO]; · iexists _; iexact HO
  unfold spent
  isplitl [HaS]; · iexact HaS
  isplitl [HaR]; · iexact HaR
  isplitl [Hs]; · iexists _; iexact Hs
  iapply (Entails.of_eq (rest_send S c r)) $$ Hp

end Cert.KernelIdeal.AllReduce
-- ==== Proof.Sums.lean ====
/-
  What the output and the send slots hold along the exchange.

  `acc P k h c` is half `h` of device `c`'s running sum after `k` steps, from the partial outputs `P`; `cur P c n`
  is the output before trade `n`; `sent P r c` is what device `c` sends in trade `r`.
-/
module

public import proofs.«01_k».proof.Proof.Rows
public import proofs.«01_k».proof.Proof.Trade

@[expose] public section

noncomputable section

namespace Cert.KernelIdeal.AllReduce

open Cert.KernelIdeal
open Cert.KernelIdeal.Facts₀ Cert.KernelIdeal.Facts
open Idealize.ShloMosaic Idealize.ShloMosaic.TcCoe

variable {F : FTy → Type} [FloatOps F]

/-- A half as it is sent. -/
def narrow (X : HalfV F) : SlotV F := truncf (F := F) (s := S2x128x256) .bf16 X bitsLt_bf16_f32

/-- A half with a received half added. -/
def foldS (v : HalfV F) (X : SlotV F) : HalfV F := fold v fun j => X (rsh.symm j)

/-- The step number `k` as a step. -/
def stN (k : ℕ) : Fin 3 := ⟨k % 3, Nat.mod_lt _ (by decide)⟩

/-- The running sums after `k` steps. -/
def acc (P : Fin 2 → Dev nD → HalfV F) : ℕ → Fin 2 → Dev nD → HalfV F
  | 0 => P
  | k + 1 => fun h c => foldS (acc P k h c) (narrow (acc P k h (pr (stN k) c)))

variable (P : Fin 2 → Dev nD → HalfV F) (c : Dev nD)

/-- What device `c` sends in trade `r`. -/
def sent (r : Fin 6) (c : Dev nD) : SlotV F := narrow (acc P (r.val / 2) (hf r) c)

/-- The output's halves before trade `n`. -/
def cur (n : ℕ) : Fin 2 → HalfV F := fun h => acc P ((n + 1 - h.val) / 2) h c

theorem st_eq (r : Fin 6) : st r = stN (r.val / 2) := by revert r; decide

theorem cur_at (r : Fin 6) : cur P c r.val (hf r) = acc P (r.val / 2) (hf r) c := by
  have e : (r.val + 1 - (hf r).val) / 2 = r.val / 2 := by revert r; decide
  unfold cur
  rw [e]

theorem fold_cur (r : Fin 6) : foldS (cur P c r.val (hf r)) (sent P r (pr (st r) c)) = acc P (r.val / 2 + 1) (hf r) c := by
  rw [cur_at, sent, st_eq]
  rfl

theorem cur_step (r : Fin 6) : Function.update (cur P c r.val) (hf r) (acc P (r.val / 2 + 1) (hf r) c) = cur P c (r.val + 1) := by
  funext h
  by_cases e : h = hf r
  · subst e
    rw [Function.update_self]
    have e : (r.val + 1 + 1 - (hf r).val) / 2 = r.val / 2 + 1 := by revert r; decide
    unfold cur
    rw [e]
  · rw [Function.update_of_ne e]
    have e : (r.val + 1 - h.val) / 2 = (r.val + 1 + 1 - h.val) / 2 := by revert h r; decide
    unfold cur
    rw [e]

theorem cur_zero (A : Fin 2 → HalfV F) : Function.update (Function.update A 0 (P 0 c)) 1 (P 1 c) = cur P c 0 := by
  funext h
  match h with
  | 0 => rfl
  | 1 => rfl

theorem narrow_rows (x y : FVec F S128x256 .f32) :
    rows ![truncf .bf16 x bitsLt_bf16_f32, truncf .bf16 y bitsLt_bf16_f32] = narrow (rows ![x, y]) := by
  funext i
  have hi : (i 0).val < 2 := (i 0).isLt
  have e : i 0 = (0 : Fin 2) ∨ i 0 = (1 : Fin 2) := by
    rcases Nat.lt_or_ge (i 0).val 1 with h | h
    · exact .inl (Fin.ext (by show (i 0).val = 0; omega))
    · exact .inr (Fin.ext (by show (i 0).val = 1; omega))
  unfold narrow rows truncf
  dsimp only
  rcases e with e | e <;> (rw [e]; rfl)

/-- One device's partial output from its operands. -/
def part (X : Vec F S2x128x512 .f32) (Wq Wo : Vec F S512x512 .f32) (Wk Wv : Vec F S512x128 .f32) (h : Fin 2) : HalfV F :=
  rows ![blk h (attn (proj Wq Wk Wv fun j => X ((rowR 0).emb j))) Wo, blk h (attn (proj Wq Wk Wv fun j => X ((rowR 1).emb j))) Wo]

end Cert.KernelIdeal.AllReduce
-- ==== Proof.Moves.lean ====
/-
  The stretches of the body, one lemma each: a half of the partial output and its first copy, a fold, the next
  step's copy.
-/
module

public import proofs.«01_k».proof.Proof.Sums

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the copies go to -/

theorem dev1 : ∀ c : Dev nD, (⟨k0_dev1 c, k0_dev1_lt c⟩ : Dev nD) = pr 0 c := by decide +kernel
theorem dev2 : ∀ c : Dev nD, (⟨k0_dev2 c, k0_dev2_lt c⟩ : Dev nD) = pr 1 c := by decide +kernel
theorem dev3 : ∀ c : Dev nD, (⟨k0_dev3 c, k0_dev3_lt c⟩ : Dev nD) = pr 2 c := by decide +kernel
theorem dev4 : ∀ c : Dev nD, (⟨k0_dev4 c, k0_dev4_lt c⟩ : Dev nD) = pr (st 0) c := by decide +kernel
theorem dev5 : ∀ c : Dev nD, (⟨k0_dev5 c, k0_dev5_lt c⟩ : Dev nD) = pr (st 1) c := by decide +kernel
theorem dev6 : ∀ c : Dev nD, (⟨k0_dev6 c, k0_dev6_lt c⟩ : Dev nD) = pr (st 2) c := by decide +kernel
theorem dev7 : ∀ c : Dev nD, (⟨k0_dev7 c, k0_dev7_lt c⟩ : Dev nD) = pr (st 3) c := by decide +kernel
theorem dev8 : ∀ c : Dev nD, (⟨k0_dev8 c, k0_dev8_lt c⟩ : Dev nD) = pr (st 4) c := by decide +kernel
theorem dev9 : ∀ c : Dev nD, (⟨k0_dev9 c, k0_dev9_lt c⟩ : Dev nD) = pr (st 5) c := by decide +kernel

variable (c : Dev nD) (m : Memref sig .tc .vmem S2x128x512 .f32)

/-- One block of the partial output, and its narrowed copy. -/
theorem put_run {Q : PUnit → sProp 𝕄} (r : Fin 6) (b h : Fin 2) {x : FVec F S128x256 .f32} {hp} {κ : Moves F}
    {A : Fin 2 → HalfV F} {X : SlotV F} :
    iprop(owns (c : Thread nD τ) m fullShare (join A) ∗ owns (c : Thread nD τ) (send r) fullShare X)
      ⊢ iprop((owns (c : Thread nD τ) m fullShare (join (Function.update A h (setRow b x (A h))))
            ∗ owns (c : Thread nD τ) (send r) fullShare (setRow b (truncf .bf16 x bitsLt_bf16_f32) X) -∗ run c κ Q)
          -∗ run c (putP m r b h x hp κ) Q) := by
  unfold putP
  iintro ⟨Ho, Hs⟩ Hk
  iapply (own_load c) $$ Ho
  iintro Ho
  iapply (blk_store c m b h) $$ Ho
  iintro Ho
  iapply (qtr_load c r b) $$ Hs
  iintro %v Hs
  iapply (qtr_store c r b) $$ Hs
  iintro Hs
  iapply Hk
  isplitl [Ho]; · iexact Ho
  iexact Hs

/-- A half of the partial output: both its blocks, and the narrowed half in the send slot. -/
theorem puts_run {Q : PUnit → sProp 𝕄} (r : Fin 6) (h : Fin 2) {x y : FVec F S128x256 .f32} {hp hp'} {κ : Moves F}
    {A : Fin 2 → HalfV F} {X : SlotV F} :
    iprop(owns (c : Thread nD τ) m fullShare (join A) ∗ owns (c : Thread nD τ) (send r) fullShare X)
      ⊢ iprop((owns (c : Thread nD τ) m fullShare (join (Function.update A h (rows ![x, y])))
            ∗ owns (c : Thread nD τ) (send r) fullShare (narrow (rows ![x, y])) -∗ run c κ Q)
          -∗ run c (putP m r 0 h x hp (putP m r 1 h y hp' κ)) Q) := by
  iintro H Hk
  iapply (put_run c m r 0 h) $$ H
  iintro H
  iapply (put_run c m r 1 h) $$ H
  rw [Function.update_self, Function.update_idem, setRow_setRow, setRow_setRow, narrow_rows]
  iexact Hk

variable (P : Fin 2 → Dev nD → HalfV F) {K : GSem nD τ sig → ℕ}

/-- The copy of trade `r`. -/
theorem copy_run {Q : PUnit → sProp 𝕄} (r : Fin 6) {d : Dev nD} (hd : d = pr (st r) c) {O O' : CellTallies nD τ sig Unit}
    (hO : O' = O + oweR r c) {W : Waits sig Unit} {κ : Moves F} :
    iprop(known (sent P) K ∗ owes (c : Thread nD τ) O' W ∗ fresh r c ∗ lend (F := F) r c
        ∗ owns (c : Thread nD τ) (send r) fullShare (sent P r c))
      ⊢ iprop((owes (c : Thread nD τ) O W ∗ flying r c -∗ run c κ Q) -∗ run c (copyP r d κ) Q) := by
  unfold copyP
  exact send_run (F := F) (S := sent P) (κ := fun _ => κ) c r hd hO

/-- Trade `r` received and added to its half. -/
theorem fold_run {Q : PUnit → sProp 𝕄} (r : Fin 6) (n : ℕ) (hn : r.val < n) {W : Waits sig Unit} {κ : FVec F S2x128x256 .f32 → Moves F} :
    iprop(known (sent P) K ∗ levAts L lv ∗ owes (c : Thread nD τ) (owed n c) W ∗ flying r c
        ∗ owns (c : Thread nD τ) m fullShare (join (cur P c r.val)))
      ⊢ iprop(((∃ W, owes (c : Thread nD τ) (owed n c) W) ∗ landed (sent P) r c
            ∗ owns (c : Thread nD τ) m fullShare (join (cur P c (r.val + 1))) -∗ run c (κ (acc P (r.val / 2 + 1) (hf r) c)) Q)
          -∗ run c (foldP m r κ) Q) := by
  unfold foldP
  iintro ⟨#HK, #HL, HO, Hf, Ho⟩ Hk
  iapply (recv_run c r n hn) $$ [HO Hf]
  · isplitr; · iexact HK
    isplitr; · iexact HL
    isplitl [HO]; · iexact HO
    iexact Hf
  unfold landed
  iintro ⟨HO, HaS, HcS, HaR, Hs⟩
  iapply (half_load c m (hf r)) $$ Ho
  iintro Ho
  iapply (slot_load c commM r) $$ Hs
  iintro Hs
  iapply (half_load c m (hf r)) $$ Ho
  iintro Ho
  iapply (half_store c m (hf r)) $$ Ho
  have e : fold (cur P c r.val (hf r)) (fun j : (slab r).shape.Idx => sent P r (pr (st r) c) (rsh.symm j)) = acc P (r.val / 2 + 1) (hf r) c := fold_cur P c r
  rw [e, cur_step]
  iintro Ho
  iapply Hk
  isplitl [HO]; · iexact HO
  isplitl [HaS HcS HaR Hs]
  · isplitl [HaS]; · iexact HaS
    isplitl [HcS]; · iexact HcS
    isplitl [HaR]; · iexact HaR
    iexact Hs
  iexact Ho

/-- The next step's copy: the new half narrowed into its send slot, and sent. -/
theorem next_run {Q : PUnit → sProp 𝕄} (r : Fin 6) {d : Dev nD} (hd : d = pr (st r) c) {O O' : CellTallies nD τ sig Unit}
    (hO : O' = O + oweR r c) {W : Waits sig Unit} {hp} {κ : Moves F} {x : FVec F S2x128x256 .f32} (hx : x = acc P (r.val / 2) (hf r) c) :
    iprop(known (sent P) K ∗ owes (c : Thread nD τ) O' W ∗ fresh r c ∗ lend (F := F) r c
        ∗ (∃ X : SlotV F, owns (c : Thread nD τ) (send r) fullShare X))
      ⊢ iprop((owes (c : Thread nD τ) O W ∗ flying r c -∗ run c κ Q) -∗ run c (nextP r hp d x κ) Q) := by
  subst hx
  unfold nextP
  iintro ⟨#HK, HO, Hf, Hl, ⟨%X, Hs⟩⟩ Hk
  iapply (slot_load_part c sendM r (Finset.Subset.refl _)) $$ Hs
  iintro %v Hs
  iapply (slot_store_whole c sendM r) $$ Hs
  have e : (fun i : S2x128x256.Idx => shapeCast S1x2x128x256 (truncf .bf16 (acc P (r.val / 2) (hf r) c) bitsLt_bf16_f32)
      shapeCasts_S2x128x256_S1x2x128x256 (rsh i)) = sent P r c := by
    funext i
    show narrow (acc P (r.val / 2) (hf r) c) (Shape.reshapeEquiv _ (rsh i)) = _
    rw [show Shape.reshapeEquiv _ (rsh i) = i from (Shape.reshapeEquiv _).symm_apply_apply i]
    rfl
  rw [e]
  iintro Hs
  iapply (copy_run c P r hd hO) $$ [HO Hf Hl Hs]
  · isplitr; · iexact HK
    isplitl [HO]; · iexact HO
    isplitl [Hf]; · iexact Hf
    isplitl [Hl]; · iexact Hl
    iexact Hs
  iexact Hk

end Cert.KernelIdeal.AllReduce
-- ==== Proof.Body.lean ====
/-
  The whole body of one device: from all its trades fresh and its operands staged to all its trades spent and the
  output holding its running sum after the three steps.
-/
module

public import proofs.«01_k».proof.Proof.Moves

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bigSep_three (Φ : Fin 3 → sProp 𝕄) : bigSep Finset.univ Φ = iprop(Φ 0 ∗ Φ 1 ∗ Φ 2) :=
  bigSep_univ_eq_bigSepL [0, 1, 2] (by decide) (by decide) Φ

/-- Some contents in a receive slot. -/
def commAny (r : Fin 6) (c : Dev nD) : sProp 𝕄 := iprop(∃ X : SlotV F, owns (c : Thread nD τ) (comm r) fullShare X)
/-- Some contents in a send slot. -/
def sendAny (r : Fin 6) (c : Dev nD) : sProp 𝕄 := iprop(∃ X : SlotV F, owns (c : Thread nD τ) (send r) fullShare X)

variable (P : Fin 2 → Dev nD → HalfV F) {K : GSem nD τ sig → ℕ} (c : Dev nD) (m : Memref sig .tc .vmem S2x128x512 .f32)

theorem first_run {Q : PUnit → sProp 𝕄} {a0 a1 : FVec F S128x512 .f32} {wo : Vec F S512x512 .f32}
    (hP : ∀ h, P h c = rows ![blk h a0 wo, blk h a1 wo]) {W : Waits sig Unit} {A : Fin 2 → HalfV F} {κ : Moves F} :
    iprop(known (sent P) K ∗ owes (c : Thread nD τ) (owed 0 c) W ∗ fresh 0 c ∗ fresh 1 c ∗ lend (F := F) 0 c ∗ lend (F := F) 1 c
        ∗ sendAny (F := F) 0 c ∗ sendAny (F := F) 1 c ∗ owns (c : Thread nD τ) m fullShare (join A))
      ⊢ iprop((owes (c : Thread nD τ) (owed 2 c) W ∗ flying 0 c ∗ flying 1 c ∗ owns (c : Thread nD τ) m fullShare (join (cur P c 0)) -∗ run c κ Q)
          -∗ run c (firstP m c a0 a1 wo κ) Q) := by
  unfold firstP sendAny
  iintro ⟨#HK, HO, Hf0, Hf1, Hl0, Hl1, ⟨%X0, Hs0⟩, ⟨%X1, Hs1⟩, Ho⟩ Hk
  iapply (puts_run c m 0 0) $$ [Ho Hs0]
  · isplitl [Ho]; · iexact Ho
    iexact Hs0
  rw [← hP 0]
  iintro ⟨Ho, Hs0⟩
  iapply (copy_run c P 0 (dev4 c) (O := owed 1 c) rfl) $$ [HO Hf0 Hl0 Hs0]
  · isplitr; · iexact HK
    isplitl [HO]; · iexact HO
    isplitl [Hf0]; · iexact Hf0
    isplitl [Hl0]; · iexact Hl0
    iexact Hs0
  iintro ⟨HO, Hf0⟩
  iapply (puts_run c m 1 1) $$ [Ho Hs1]
  · isplitl [Ho]; · iexact Ho
    iexact Hs1
  rw [← hP 1, cur_zero]
  iintro ⟨Ho, Hs1⟩
  iapply (copy_run c P 1 (dev5 c) (O := owed 2 c) rfl) $$ [HO Hf1 Hl1 Hs1]
  · isplitr; · iexact HK
    isplitl [HO]; · iexact HO
    isplitl [Hf1]; · iexact Hf1
    isplitl [Hl1]; · iexact Hl1
    iexact Hs1
  iintro ⟨HO, Hf1⟩
  iapply Hk
  isplitl [HO]; · iexact HO
  isplitl [Hf0]; · iexact Hf0
  isplitl [Hf1]; · iexact Hf1
  iexact Ho

/-- A fold and the copy that follows it. -/
theorem step_run {Q : PUnit → sProp 𝕄} (r r' : Fin 6) (n n' : ℕ) (hn : r.val < n) (hr : r'.val / 2 = r.val / 2 + 1 ∧ hf r' = hf r)
    {d : Dev nD} (hd : d = pr (st r') c) (hO : owed n c = owed n' c + oweR r' c) {hp} {κ : Moves F} :
    iprop(known (sent P) K ∗ levAts L lv ∗ (∃ W, owes (c : Thread nD τ) (owed n c) W) ∗ flying r c
        ∗ fresh r' c ∗ lend (F := F) r' c ∗ sendAny (F := F) r' c ∗ owns (c : Thread nD τ) m fullShare (join (cur P c r.val)))
      ⊢ iprop(((∃ W, owes (c : Thread nD τ) (owed n' c) W) ∗ landed (sent P) r c ∗ flying r' c
            ∗ owns (c : Thread nD τ) m fullShare (join (cur P c (r.val + 1))) -∗ run c κ Q)
          -∗ run c (foldP m r fun x => nextP r' hp d x κ) Q) := by
  unfold sendAny
  iintro ⟨#HK, #HL, ⟨%W, HO⟩, Hf, Hf', Hl, Hs, Ho⟩ Hk
  iapply (fold_run c m P r n hn) $$ [HO Hf Ho]
  · isplitr; · iexact HK
    isplitr; · iexact HL
    isplitl [HO]; · iexact HO
    isplitl [Hf]; · iexact Hf
    iexact Ho
  iintro ⟨⟨%W', HO⟩, Hd, Ho⟩
  iapply (next_run c P r' hd hO (by rw [hr.1, hr.2])) $$ [HO Hf' Hl Hs]
  · isplitr; · iexact HK
    isplitl [HO]; · iexact HO
    isplitl [Hf']; · iexact Hf'
    isplitl [Hl]; · iexact Hl
    iexact Hs
  iintro ⟨HO, Hf'⟩
  iapply Hk
  isplitl [HO]; · iexists W'; iexact HO
  isplitl [Hd]; · iexact Hd
  isplitl [Hf']; · iexact Hf'
  iexact Ho

theorem folds_run {Q : PUnit → sProp 𝕄} {W : Waits sig Unit} {κ : Moves F} :
    iprop(known (sent P) K ∗ levAts L lv ∗ owes (c : Thread nD τ) (owed 2 c) W ∗ flying 0 c ∗ flying 1 c
        ∗ (fresh 2 c ∗ fresh 3 c ∗ fresh 4 c ∗ fresh 5 c)
        ∗ (lend (F := F) 2 c ∗ lend (F := F) 3 c ∗ lend (F := F) 4 c ∗ lend (F := F) 5 c)
        ∗ (sendAny (F := F) 2 c ∗ sendAny (F := F) 3 c ∗ sendAny (F := F) 4 c ∗ sendAny (F := F) 5 c)
        ∗ owns (c : Thread nD τ) m fullShare (join (cur P c 0)))
      ⊢ iprop(((∃ W, owes (c : Thread nD τ) 0 W) ∗ (bigSep Finset.univ fun r => landed (sent P) r c)
            ∗ owns (c : Thread nD τ) m fullShare (join (cur P c 6)) -∗ run c κ Q)
          -∗ run c (foldsP m c κ) Q) := by
  unfold foldsP
  iintro ⟨#HK, #HL, HO, Hf0, Hf1, ⟨Hf2, Hf3, Hf4, Hf5⟩, ⟨Hl2, Hl3, Hl4, Hl5⟩, ⟨Hs2, Hs3, Hs4, Hs5⟩, Ho⟩ Hk
  iapply (step_run P c m 0 2 2 3 (by decide) (by decide) (dev6 c) rfl) $$ [HO Hf0 Hf2 Hl2 Hs2 Ho]
  · isplitr; · iexact HK
    isplitr; · iexact HL
    isplitl [HO]; · iexists W; iexact HO
    isplitl [Hf0]; · iexact Hf0
    isplitl [Hf2]; · iexact Hf2
    isplitl [Hl2]; · iexact Hl2
    isplitl [Hs2]; · iexact Hs2
    iexact Ho
  iintro ⟨HO, Hd0, Hf2, Ho⟩
  iapply (step_run P c m 1 3 3 4 (by decide) (by decide) (dev7 c) rfl) $$ [HO Hf1 Hf3 Hl3 Hs3 Ho]
  · isplitr; · iexact HK
    isplitr; · iexact HL
    isplitl [HO]; · iexact HO
    isplitl [Hf1]; · iexact Hf1
    isplitl [Hf3]; · iexact Hf3
    isplitl [Hl3]; · iexact Hl3
    isplitl [Hs3]; · iexact Hs3
    iexact Ho
  iintro ⟨HO, Hd1, Hf3, Ho⟩
  iapply (step_run P c m 2 4 4 5 (by decide) (by decide) (dev8 c) rfl) $$ [HO Hf2 Hf4 Hl4 Hs4 Ho]
  · isplitr; · iexact HK
    isplitr; · iexact HL
    isplitl [HO]; · iexact HO
    isplitl [Hf2]; · iexact Hf2
    isplitl [Hf4]; · iexact Hf4
    isplitl [Hl4]; · iexact Hl4
    isplitl [Hs4]; · iexact Hs4
    iexact Ho
  iintro ⟨HO, Hd2, Hf4, Ho⟩
  iapply (step_run P c m 3 5 5 6 (by decide) (by decide) (dev9 c) rfl) $$ [HO Hf3 Hf5 Hl5 Hs5 Ho]
  · isplitr; · iexact HK
    isplitr; · iexact HL
    isplitl [HO]; · iexact HO
    isplitl [Hf3]; · iexact Hf3
    isplitl [Hf5]; · iexact Hf5
    isplitl [Hl5]; · iexact Hl5
    isplitl [Hs5]; · iexact Hs5
    iexact Ho
  iintro ⟨⟨%W1, HO⟩, Hd3, Hf5, Ho⟩
  iapply (fold_run c m P 4 6 (by decide)) $$ [HO Hf4 Ho]
  · isplitr; · iexact HK
    isplitr; · iexact HL
    isplitl [HO]; · iexact HO
    isplitl [Hf4]; · iexact Hf4
    iexact Ho
  iintro ⟨⟨%W2, HO⟩, Hd4, Ho⟩
  iapply (fold_run c m P 5 6 (by decide)) $$ [HO Hf5 Ho]
  · isplitr; · iexact HK
    isplitr; · iexact HL
    isplitl [HO]; · iexact HO
    isplitl [Hf5]; · iexact Hf5
    iexact Ho
  iintro ⟨HO, Hd5, Ho⟩
  iapply Hk
  isplitl [HO]; · iexact HO
  isplitl [Hd0 Hd1 Hd2 Hd3 Hd4 Hd5]
  · rw [bigSep_six]
    isplitl [Hd0]; · iexact Hd0
    isplitl [Hd1]; · iexact Hd1
    isplitl [Hd2]; · iexact Hd2
    isplitl [Hd3]; · iexact Hd3
    isplitl [Hd4]; · iexact Hd4
    iexact Hd5
  iexact Ho

theorem last_run {Q : PUnit → sProp 𝕄} :
    iprop(known (sent P) K ∗ (∃ W, owes (c : Thread nD τ) 0 W) ∗ (bigSep Finset.univ fun r => landed (sent P) r c))
      ⊢ iprop(((∃ W, owes (c : Thread nD τ) 0 W) ∗ (bigSep Finset.univ fun r => spent (F := F) r c) -∗ run c (.ret ⟨⟩) Q) -∗ run c lastP Q) := by
  unfold lastP sentP
  rw [bigSep_six, bigSep_six]
  iintro ⟨#HK, ⟨%W, HO⟩, Hd0, Hd1, Hd2, Hd3, Hd4, Hd5⟩ Hk
  iapply (sent_run c 0) $$ [HO Hd0]
  · isplitr; · iexact HK
    isplitl [HO]; · iexact HO
    iexact Hd0
  iintro ⟨⟨%W0, HO⟩, Hd0⟩
  iapply (sent_run c 1) $$ [HO Hd1]
  · isplitr; · iexact HK
    isplitl [HO]; · iexact HO
    iexact Hd1
  iintro ⟨⟨%W1, HO⟩, Hd1⟩
  iapply (sent_run c 2) $$ [HO Hd2]
  · isplitr; · iexact HK
    isplitl [HO]; · iexact HO
    iexact Hd2
  iintro ⟨⟨%W2, HO⟩, Hd2⟩
  iapply (sent_run c 3) $$ [HO Hd3]
  · isplitr; · iexact HK
    isplitl [HO]; · iexact HO
    iexact Hd3
  iintro ⟨⟨%W3, HO⟩, Hd3⟩
  iapply (sent_run c 4) $$ [HO Hd4]
  · isplitr; · iexact HK
    isplitl [HO]; · iexact HO
    iexact Hd4
  iintro ⟨⟨%W4, HO⟩, Hd4⟩
  iapply (sent_run c 5) $$ [HO Hd5]
  · isplitr; · iexact HK
    isplitl [HO]; · iexact HO
    iexact Hd5
  iintro ⟨HO, Hd5⟩
  iapply Hk
  isplitl [HO]; · iexact HO
  isplitl [Hd0]; · iexact Hd0
  isplitl [Hd1]; · iexact Hd1
  isplitl [Hd2]; · iexact Hd2
  isplitl [Hd3]; · iexact Hd3
  isplitl [Hd4]; · iexact Hd4
  iexact Hd5

/-! ## The start: the signals and the barrier -/

/-- What a device needs for the exchange besides its buffers: its barrier cell, the tokens of its signals and its
    fresh trades. -/
def ready (c : Dev nD) : sProp 𝕄 :=
  iprop(atPos ER (barCell c) 0 ∅ 0 ∗ cred (tallyAt (barCell c) () 3) ∗ (bigSep Finset.univ fun k => dutyTok ER (barCell (pr k c)) 0 k)
    ∗ (bigSep Finset.univ fun r => fresh r c) ∗ (bigSep Finset.univ fun r => reached ER (recvCell r c) 0))

/-- The slots of a device, at any contents. -/
def slots (c : Dev nD) : sProp 𝕄 :=
  iprop((bigSep Finset.univ fun r => commAny (F := F) r c) ∗ (bigSep Finset.univ fun r => sendAny (F := F) r c))

/-- Every trade over and the barrier cell past its round. -/
def over (c : Dev nD) : sProp 𝕄 := iprop(atPos ER (barCell c) 1 ∅ 0 ∗ bigSep Finset.univ fun r => spent (F := F) r c)

theorem lend_mine (r : Fin 6) : iprop(commAny (F := F) r c ∗ reached ER (recvCell r c) 0) ⊢ (lend r (pr (st r) c) : sProp 𝕄) :=
  lend_own c r

theorem whole_emb {s : Shape} (off : Fin s.rank → ℕ) (inb : ∀ a, off a + s.size a ≤ s.size a) {α : Type} (X : s.Idx → α) :
    (fun j => X ((Rect.unit (s := s) off s.size inb).emb j)) = X := by
  funext j
  refine congrArg X (funext fun a => Fin.ext ?_)
  show off a + 1 * (j a).val = (j a).val
  have := inb a
  omega

theorem dev_run {Q : PUnit → sProp 𝕄} {k : Dev nD → Moves F} : run c (k c) Q ⊢ run c (.op .deviceId k) Q :=
  Entails.of_eq (wp_deviceId 𝒱₀ (c : Thread nD τ) none Set.univ (k := k) (Q := Q)).symm

/-- The body of one device. -/
theorem body_run {Q : PUnit → sProp 𝕄} (m0 : Memref sig .tc .vmem S2x128x512 .f32) (m1 m2 : Memref sig .tc .vmem S512x512 .f32)
    (m3 m4 : Memref sig .tc .vmem S512x128 .f32) {q0 q1 q2 q3 q4 : PosShare TreeShare}
    {X0 : Vec F S2x128x512 .f32} {X1 X2 : Vec F S512x512 .f32} {X3 X4 : Vec F S512x128 .f32} {X5 : Vec F S2x128x512 .f32}
    (hP : ∀ h, P h c = part X0 X1 X2 X3 X4 h) {W : Waits sig Unit} :
    iprop(known (sent P) K ∗ levAts L lv ∗ owes (c : Thread nD τ) (O₀ c) W ∗ ready (F := F) c ∗ slots (F := F) c
        ∗ owns (c : Thread nD τ) m0 q0 X0 ∗ owns (c : Thread nD τ) m1 q1 X1 ∗ owns (c : Thread nD τ) m2 q2 X2
        ∗ owns (c : Thread nD τ) m3 q3 X3 ∗ owns (c : Thread nD τ) m4 q4 X4 ∗ owns (c : Thread nD τ) m fullShare X5)
      ⊢ iprop(((∃ W, owes (c : Thread nD τ) 0 W) ∗ over (F := F) c
            ∗ owns (c : Thread nD τ) m0 q0 X0 ∗ owns (c : Thread nD τ) m1 q1 X1 ∗ owns (c : Thread nD τ) m2 q2 X2
            ∗ owns (c : Thread nD τ) m3 q3 X3 ∗ owns (c : Thread nD τ) m4 q4 X4
            ∗ owns (c : Thread nD τ) m fullShare (join (cur P c 6)) -∗ run c (.ret ⟨⟩) Q)
          -∗ run c (bodyP m m0 m1 m2 m3 m4) Q) := by
  obtain ⟨A, rfl⟩ := eq_join X5
  unfold bodyP ready slots O₀
  rw [bigSep_six, bigSep_six, bigSep_six, bigSep_six, bigSep_three]
  iintro ⟨#HK, #HL, HO, ⟨Hbar, Hcb, ⟨Ht0, Ht1, Ht2⟩, ⟨Hf0, Hf1, Hf2, Hf3, Hf4, Hf5⟩, ⟨#Hr0, #Hr1, #Hr2, #Hr3, #Hr4, #Hr5⟩⟩,
    ⟨⟨Hc0, Hc1, Hc2, Hc3, Hc4, Hc5⟩, Hs0, Hs1, Hs2, Hs3, Hs4, Hs5⟩, H0, H1, H2, H3, H4, Ho⟩ Hk
  iapply (dev_run c)
  iapply (signal_run (S := sent P) c 0 (dev1 c)) $$ [HO Ht0 Hc0 Hc1]
  · isplitr; · iexact HK
    isplitl [HO]; · iexact HO
    isplitl [Ht0]; · iexact Ht0
    isplitl [Hc0]
    · iapply (lend_mine c 0)
      isplitl [Hc0]; · iexact Hc0
      iexact Hr0
    · iapply (lend_mine c 1)
      isplitl [Hc1]; · iexact Hc1
      iexact Hr1
  iintro HO
  iapply (signal_run (S := sent P) c 1 (dev2 c)) $$ [HO Ht1 Hc2 Hc3]
  · isplitr; · iexact HK
    isplitl [HO]; · iexact HO
    isplitl [Ht1]; · iexact Ht1
    isplitl [Hc2]
    · iapply (lend_mine c 2)
      isplitl [Hc2]; · iexact Hc2
      iexact Hr2
    · iapply (lend_mine c 3)
      isplitl [Hc3]; · iexact Hc3
      iexact Hr3
  iintro HO
  iapply (signal_run (S := sent P) c 2 (dev3 c)) $$ [HO Ht2 Hc4 Hc5]
  · isplitr; · iexact HK
    isplitl [HO]; · iexact HO
    isplitl [Ht2]; · iexact Ht2
    isplitl [Hc4]
    · iapply (lend_mine c 4)
      isplitl [Hc4]; · iexact Hc4
      iexact Hr4
    · iapply (lend_mine c 5)
      isplitl [Hc5]; · iexact Hc5
      iexact Hr5
  iintro HO
  iapply (bar_run (S := sent P) c) $$ [HO Hcb Hbar]
  · isplitr; · iexact HK
    isplitr; · iexact HL
    isplitl [Hcb]; · iexact Hcb
    isplitl [HO]; · iexact HO
    iexact Hbar
  rw [bigSep_three]
  unfold barPay
  iintro ⟨⟨%W1, HO⟩, Hbar, ⟨Hl0, Hl1⟩, ⟨Hl2, Hl3⟩, Hl4, Hl5⟩
  iapply (own_load c) $$ H1
  iintro H1
  iapply (own_load c) $$ H3
  iintro H3
  iapply (own_load c) $$ H4
  iintro H4
  iapply (own_load c) $$ H0
  iintro H0
  iapply (own_load c) $$ H0
  iintro H0
  iapply (own_load c) $$ H2
  iintro H2
  iapply (first_run P c m (A := A) (W := W1) (fun h => (hP h).trans (by rw [whole_emb, whole_emb, whole_emb, whole_emb]; rfl))) $$ [HO Hf0 Hf1 Hl0 Hl1 Hs0 Hs1 Ho]
  · isplitr; · iexact HK
    isplitl [HO]; · iexact HO
    isplitl [Hf0]; · iexact Hf0
    isplitl [Hf1]; · iexact Hf1
    isplitl [Hl0]; · iexact Hl0
    isplitl [Hl1]; · iexact Hl1
    isplitl [Hs0]; · iexact Hs0
    isplitl [Hs1]; · iexact Hs1
    iexact Ho
  iintro ⟨HO, Hf0, Hf1, Ho⟩
  iapply (folds_run P c m) $$ [HO Hf0 Hf1 Hf2 Hf3 Hf4 Hf5 Hl2 Hl3 Hl4 Hl5 Hs2 Hs3 Hs4 Hs5 Ho]
  · isplitr; · iexact HK
    isplitr; · iexact HL
    isplitl [HO]; · iexact HO
    isplitl [Hf0]; · iexact Hf0
    isplitl [Hf1]; · iexact Hf1
    isplitl [Hf2 Hf3 Hf4 Hf5]
    · isplitl [Hf2]; · iexact Hf2
      isplitl [Hf3]; · iexact Hf3
      isplitl [Hf4]; · iexact Hf4
      iexact Hf5
    isplitl [Hl2 Hl3 Hl4 Hl5]
    · isplitl [Hl2]; · iexact Hl2
      isplitl [Hl3]; · iexact Hl3
      isplitl [Hl4]; · iexact Hl4
      iexact Hl5
    isplitl [Hs2 Hs3 Hs4 Hs5]
    · isplitl [Hs2]; · iexact Hs2
      isplitl [Hs3]; · iexact Hs3
      isplitl [Hs4]; · iexact Hs4
      iexact Hs5
    iexact Ho
  iintro ⟨HO, Hd, Ho⟩
  iapply (last_run P c) $$ [HO Hd]
  · isplitr; · iexact HK
    isplitl [HO]; · iexact HO
    iexact Hd
  iintro ⟨HO, Hd⟩
  iapply Hk
  isplitl [HO]; · iexact HO
  isplitl [Hbar Hd]
  · unfold over
    isplitl [Hbar]; · iexact Hbar
    iexact Hd
  isplitl [H0]; · iexact H0
  isplitl [H1]; · iexact H1
  isplitl [H2]; · iexact H2
  isplitl [H3]; · iexact H3
  isplitl [H4]; · iexact H4
  iexact Ho

end Cert.KernelIdeal.AllReduce
-- ==== Proof.Slots.lean ====
/-
  The two slot buffers as six slots each: a buffer held whole is its six slots, and six slots at any contents are
  the buffer at some contents.
-/
module

public import proofs.«01_k».proof.Proof.Body
public import proofs.«01_k».proof.Proof.Gen.KernelIdeal.Launch
public import Idealize.ShloMosaic.Lib.Ring

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-- Different slots have no element in common. -/
theorem slab_disjoint (r r' : Fin 6) (h : r ≠ r') : Disjoint (slab r).set (slab r').set :=
  lead_disjoint (s := S6x2x128x256) (0 : Fin 4) 1 (fun r : Fin 6 => (![r.val, 0, 0, 0] : Fin 4 → ℕ)) S1x2x128x256.size inb_slab
    (fun b => (Nat.one_mul _).symm) rfl r r' h

/-- The six slots are the whole buffer. -/
theorem slab_cover : Finset.univ.biUnion (fun r : Fin 6 => (slab r).set) = Finset.univ :=
  lead_cover (s := S6x2x128x256) (0 : Fin 4) 1 (fun r : Fin 6 => (![r.val, 0, 0, 0] : Fin 4 → ℕ)) S1x2x128x256.size inb_slab
    (fun b => (Nat.one_mul _).symm)
    (fun b a ha => by
      match a with
      | 0 => exact absurd rfl ha
      | 1 => rfl
      | 2 => rfl
      | 3 => rfl)
    rfl
    (fun a ha => by
      match a with
      | 0 => exact absurd rfl ha
      | 1 => rfl
      | 2 => rfl
      | 3 => rfl)
    rfl

theorem comm_set (r : Fin 6) : (comm r).view.set = (slab r).set := by
  rw [slot_set]; exact Finset.map_refl

theorem send_set (r : Fin 6) : (send r).view.set = (slab r).set := by
  rw [slot_set]; exact Finset.map_refl

variable (c : Dev nD)

/-- Slot `r` of the receive buffer, as elements of the buffer. -/
theorem comm_of_part (r : Fin 6) (f : Buf (Elt F) ((c : Thread nD τ).loc cc0_scratch0)) :
    (((c : Thread nD τ).loc cc0_scratch0) ↦[(slab r).set]{fullShare} f : sProp 𝕄) ⊢ commAny (F := F) r c := by
  unfold commAny owns
  rw [comm_set]
  iintro H
  iexists _
  iexists f
  isplitr; · ipureintro; rfl
  iexact H

theorem part_of_comm (r : Fin 6) : (commAny (F := F) r c : sProp 𝕄)
    ⊢ iprop(∃ f : Buf (Elt F) ((c : Thread nD τ).loc cc0_scratch0), ((c : Thread nD τ).loc cc0_scratch0) ↦[(slab r).set]{fullShare} f) := by
  unfold commAny owns
  rw [comm_set]
  iintro ⟨%X, %f, -, H⟩
  iexists f
  iexact H

/-- The receive buffer at any contents is its six slots at any contents. -/
theorem comm_split : iprop(∃ f : Buf (Elt F) ((c : Thread nD τ).loc cc0_scratch0), ((c : Thread nD τ).loc cc0_scratch0) ↦{fullShare} f)
    ⊢ (bigSep Finset.univ fun r => commAny (F := F) r c : sProp 𝕄) := by
  have h1 (f : Buf (Elt F) ((c : Thread nD τ).loc cc0_scratch0)) := Entails.of_eq (pointsTo_blocks (Ix := Unit) (Name := ℕ) (U := UU) (Lvl := ℕ)
    (Val := Elt F) (ℓ := (c : Thread nD τ).loc cc0_scratch0) (fun r : Fin 6 => (slab r).set) slab_disjoint slab_cover (q := fullShare) f)
  have h2 (f : Buf (Elt F) ((c : Thread nD τ).loc cc0_scratch0)) := bigSep_mono (M := 𝕄) (s := Finset.univ) fun r _ => comm_of_part (F := F) c r f
  iintro ⟨%f, H⟩
  iapply ((h1 f).trans (h2 f))
  iexact H

theorem comm_join : (bigSep Finset.univ fun r => commAny (F := F) r c : sProp 𝕄)
    ⊢ iprop(∃ f : Buf (Elt F) ((c : Thread nD τ).loc cc0_scratch0), ((c : Thread nD τ).loc cc0_scratch0) ↦{fullShare} f) := by
  have h1 := bigSep_mono (M := 𝕄) (s := Finset.univ) fun r _ => part_of_comm (F := F) c r
  have h2 := pointsTo_blocks_join_exists (Ix := Unit) (Name := ℕ) (U := UU) (Lvl := ℕ) (Val := Elt F) (ℓ := (c : Thread nD τ).loc cc0_scratch0)
    (fun r : Fin 6 => (slab r).set) slab_disjoint slab_cover (q := fullShare) (fun _ => FloatOps.ofBits (F := F) .bf16 0)
  exact h1.trans h2

/-- Slot `r` of the send buffer, as elements of the buffer. -/
theorem send_of_part (r : Fin 6) (f : Buf (Elt F) ((c : Thread nD τ).loc cc0_scratch1)) :
    (((c : Thread nD τ).loc cc0_scratch1) ↦[(slab r).set]{fullShare} f : sProp 𝕄) ⊢ sendAny (F := F) r c := by
  unfold sendAny owns
  rw [send_set]
  iintro H
  iexists _
  iexists f
  isplitr; · ipureintro; rfl
  iexact H

theorem part_of_send (r : Fin 6) : (sendAny (F := F) r c : sProp 𝕄)
    ⊢ iprop(∃ f : Buf (Elt F) ((c : Thread nD τ).loc cc0_scratch1), ((c : Thread nD τ).loc cc0_scratch1) ↦[(slab r).set]{fullShare} f) := by
  unfold sendAny owns
  rw [send_set]
  iintro ⟨%X, %f, -, H⟩
  iexists f
  iexact H

/-- The send buffer at any contents is its six slots at any contents. -/
theorem send_split : iprop(∃ f : Buf (Elt F) ((c : Thread nD τ).loc cc0_scratch1), ((c : Thread nD τ).loc cc0_scratch1) ↦{fullShare} f)
    ⊢ (bigSep Finset.univ fun r => sendAny (F := F) r c : sProp 𝕄) := by
  have h1 (f : Buf (Elt F) ((c : Thread nD τ).loc cc0_scratch1)) := Entails.of_eq (pointsTo_blocks (Ix := Unit) (Name := ℕ) (U := UU) (Lvl := ℕ)
    (Val := Elt F) (ℓ := (c : Thread nD τ).loc cc0_scratch1) (fun r : Fin 6 => (slab r).set) slab_disjoint slab_cover (q := fullShare) f)
  have h2 (f : Buf (Elt F) ((c : Thread nD τ).loc cc0_scratch1)) := bigSep_mono (M := 𝕄) (s := Finset.univ) fun r _ => send_of_part (F := F) c r f
  iintro ⟨%f, H⟩
  iapply ((h1 f).trans (h2 f))
  iexact H

theorem send_join : (bigSep Finset.univ fun r => sendAny (F := F) r c : sProp 𝕄)
    ⊢ iprop(∃ f : Buf (Elt F) ((c : Thread nD τ).loc cc0_scratch1), ((c : Thread nD τ).loc cc0_scratch1) ↦{fullShare} f) := by
  have h1 := bigSep_mono (M := 𝕄) (s := Finset.univ) fun r _ => part_of_send (F := F) c r
  have h2 := pointsTo_blocks_join_exists (Ix := Unit) (Name := ℕ) (U := UU) (Lvl := ℕ) (Val := Elt F) (ℓ := (c : Thread nD τ).loc cc0_scratch1)
    (fun r : Fin 6 => (slab r).set) slab_disjoint slab_cover (q := fullShare) (fun _ => FloatOps.ofBits (F := F) .bf16 0)
  exact h1.trans h2

/-- The scoped buffers that no window stages are the slots of both buffers. -/
theorem slots_of_rest : (Pipeline.scopedRest (Ix := Unit) (Name := ℕ) (U := UU) (Lvl := ℕ) (Val := Elt F) spec0 c : sProp 𝕄) ⊢ slots (F := F) c := by
  rw [Gen.scopedRest0_eq]
  exact BIClass.sep_mono (comm_split c) (send_split c)

theorem rest_of_slots : slots (F := F) c ⊢ (Pipeline.scopedRest (Ix := Unit) (Name := ℕ) (U := UU) (Lvl := ℕ) (Val := Elt F) spec0 c : sProp 𝕄) := by
  rw [Gen.scopedRest0_eq]
  exact BIClass.sep_mono (comm_join c) (send_join c)

end Cert.KernelIdeal.AllReduce
-- ==== Proof.Cells.lean ====
/-
  What a device is dealt at the program's start, the opening of its send and receive cells when the kernel is
  entered, and the closing of all its cells, their counters at zero, when the kernel ends.
-/
module

public import proofs.«01_k».proof.Proof.Slots

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two families side by side are one family of pairs, and back. -/
theorem together {I : Type} [Fintype I] [DecidableEq I] {Φ Ψ : I → sProp 𝕄} :
    iprop(bigSep Finset.univ Φ ∗ bigSep Finset.univ Ψ) ⊢ bigSep Finset.univ fun i => iprop(Φ i ∗ Ψ i) :=
  Entails.of_eq (bigSep_sep' _ _ _).symm
theorem apart {I : Type} [Fintype I] [DecidableEq I] {Φ Ψ : I → sProp 𝕄} :
    (bigSep Finset.univ fun i => iprop(Φ i ∗ Ψ i)) ⊢ iprop(bigSep Finset.univ Φ ∗ bigSep Finset.univ Ψ) :=
  Entails.of_eq (bigSep_sep' _ _ _)

/-- The kernel's own semaphores: the send and the receive semaphore of each trade. -/
def osem (p : Fin 6 × Fin 2) : SemLoc sig := match p.2 with
  | 0 => .dma (sendS p.1)
  | 1 => .dma (recvS p.1)

theorem osem_facts : Pipeline.OwnSemFacts spec0 osem := by decide

/-- The kernel's own counters at zero, trade by trade. -/
theorem ownSems_eq (c : Dev nD) : (Pipeline.ownSems0 (Ix := Unit) (Name := ℕ) (U := UU) (Lvl := ℕ) (Val := Elt F) osem c : sProp 𝕄)
    = bigSep Finset.univ fun r : Fin 6 => iprop(semVal (sendCell r c) 0 ∗ semVal (recvCell r c) 0) := by
  unfold Pipeline.ownSems0
  rw [bigSep_univ_prod]
  exact bigSep_congr fun r _ => BI.bigSep_fin_two (fun k : Fin 2 => (semVal ((c : Thread nD τ), osem (r, k)) 0 : sProp 𝕄))

/-- What a device is dealt at the start: its place at its barrier cell, the right to open its send and receive
    cells, and a token for each duty that it pays. -/
def dealt (c : Dev nD) : sProp 𝕄 :=
  iprop(atPos ER (barCell c) 0 ∅ 0 ∗ (bigSep Finset.univ fun k => dutyTok ER (barCell (pr k c)) 0 k)
    ∗ (bigSep Finset.univ fun r : Fin 6 => iprop(openTok ER (sendCell r c) ∗ openTok ER (recvCell r c)))
    ∗ (bigSep Finset.univ fun r : Fin 6 => dutyTok ER (sendCell r c) 0 (0 : Fin 3))
    ∗ (bigSep Finset.univ fun r : Fin 6 => dutyTok ER (recvCell r (pr (st r) c)) 0 (0 : Fin 3)))

/-- The credits for what its partners owe to a device's cells. -/
def credits (c : Dev nD) : sProp 𝕄 :=
  iprop(cred (tallyAt (barCell c) () 3) ∗ bigSep Finset.univ fun r : Fin 6 => cred (tallyAt (recvCell r c) () N))

variable (S : Fin 6 → Dev nD → SlotV F) {K : GSem nD τ sig → ℕ} (c : Dev nD)

/-- The opening of the two cells of one trade. -/
theorem open_one (r : Fin 6) :
    iprop(known S K ∗ (openTok ER (sendCell r c) ∗ openTok ER (recvCell r c)) ∗ (semVal (sendCell r c) 0 ∗ semVal (recvCell r c) 0)
        ∗ dutyTok ER (sendCell r c) 0 (0 : Fin 3) ∗ dutyTok ER (recvCell r (pr (st r) c)) 0 (0 : Fin 3) ∗ cred (tallyAt (recvCell r c) () N))
      ⊢ (|={Set.univ}=> iprop(fresh r c ∗ reached ER (recvCell r c) 0) : sProp 𝕄) := by
  iintro ⟨#HK, ⟨HoS, HoR⟩, ⟨HvS, HvR⟩, HtS, HtR, Hc⟩
  ihave #HiS := (known_send r c) $$ HK
  ihave #HiR := (known_recv r c) $$ HK
  imod (Rounds.cell_open ER (Rd S) (g := sendCell r c) (Set.mem_univ (K (sendCell r c)))) $$ [HoS HvS] with ⟨HaS, #HrS⟩
  · isplitr; · iexact HiS
    isplitl [HoS] <;> iassumption
  imod (Rounds.cell_open ER (Rd S) (g := recvCell r c) (Set.mem_univ (K (recvCell r c)))) $$ [HoR HvR] with ⟨HaR, #HrR⟩
  · isplitr; · iexact HiR
    isplitl [HoR] <;> iassumption
  imodintro
  unfold fresh
  isplitl
  · isplitl [HaS]; · iexact HaS
    isplitr; · iexact HrS
    isplitl [HtS]; · iexact HtS
    isplitl [HtR]; · iexact HtR
    isplitl [HaR]; · iexact HaR
    iexact Hc
  iexact HrR

/-- The closing of the two cells of a trade that is over. -/
theorem close_one (r : Fin 6) :
    iprop(known S K ∗ spent (F := F) r c)
      ⊢ (|={Set.univ}=> iprop((semVal (sendCell r c) 0 ∗ semVal (recvCell r c) 0) ∗ commAny (F := F) r c ∗ sendAny (F := F) r c) : sProp 𝕄) := by
  unfold spent commAny sendAny
  iintro ⟨#HK, HaS, HaR, Hc, Hs⟩
  ihave #HiS := (known_send r c) $$ HK
  ihave #HiR := (known_recv r c) $$ HK
  imod (Rounds.cell_close ER (Rd S) (g := sendCell r c) (Set.mem_univ (K (sendCell r c))) id (R := 1) (duties_later S _)) $$ [HaS] with HvS
  · isplitr; · iexact HiS
    iexact HaS
  imod (Rounds.cell_close ER (Rd S) (g := recvCell r c) (Set.mem_univ (K (recvCell r c))) id (R := 1) (duties_later S _)) $$ [HaR] with HvR
  · isplitr; · iexact HiR
    iexact HaR
  imodintro
  isplitl [HvS HvR]
  · isplitl [HvS] <;> iassumption
  isplitl [Hc]; · iexact Hc
  iexact Hs

/-- Everything opened: the device is ready for the body. -/
theorem open_all :
    iprop((∃ K, known S K) ∗ dealt (F := F) c ∗ credits (F := F) c
        ∗ Pipeline.ownSems0 (Ix := Unit) (Name := ℕ) (U := UU) (Lvl := ℕ) (Val := Elt F) osem c ∗ levAts L lv)
      ⊢ (|={Set.univ}=> iprop((∃ K, known S K) ∗ levAts L lv ∗ ready (F := F) c) : sProp 𝕄) := by
  rw [ownSems_eq]
  unfold dealt credits ready
  iintro ⟨⟨%K, #HK⟩, ⟨Hb, Htb, Ho, HtS, HtR⟩, ⟨Hcb, Hc⟩, Hv, #HL⟩
  imod (show iprop(known S K ∗ (bigSep Finset.univ fun r : Fin 6 => iprop((openTok ER (sendCell r c) ∗ openTok ER (recvCell r c))
        ∗ (semVal (sendCell r c) 0 ∗ semVal (recvCell r c) 0)
        ∗ dutyTok ER (sendCell r c) 0 (0 : Fin 3) ∗ dutyTok ER (recvCell r (pr (st r) c)) 0 (0 : Fin 3) ∗ cred (tallyAt (recvCell r c) () N))))
      ⊢ (|={Set.univ}=> (bigSep Finset.univ fun r : Fin 6 => iprop(fresh (F := F) r c ∗ reached ER (recvCell r c) 0)) : sProp 𝕄) from
      (bigSep_with_persistent fun r _ => open_one S c r).trans (bigSep_fupd _ _)) $$ [Ho HtS HtR Hc Hv] with H
  · isplitr; · iexact HK
    iapply together; isplitl [Ho]; · iexact Ho
    iapply together; isplitl [Hv]; · iexact Hv
    iapply together; isplitl [HtS]; · iexact HtS
    iapply together; isplitl [HtR]; · iexact HtR
    iexact Hc
  ihave H := apart $$ H
  icases H with ⟨Hf, Hr⟩
  imodintro
  isplitr; · iexists K; iexact HK
  isplitr; · iexact HL
  isplitl [Hb]; · iexact Hb
  isplitl [Hcb]; · iexact Hcb
  isplitl [Htb]; · iexact Htb
  isplitl [Hf]; · iexact Hf
  iexact Hr

/-- Everything closed: all counters of the device at zero, its slots back. -/
theorem close_all :
    iprop(known S K ∗ over (F := F) c)
      ⊢ (|={Set.univ}=> iprop(semVal (barCell c) 0
          ∗ Pipeline.ownSems0 (Ix := Unit) (Name := ℕ) (U := UU) (Lvl := ℕ) (Val := Elt F) osem c ∗ slots (F := F) c) : sProp 𝕄) := by
  rw [ownSems_eq]
  unfold over slots
  iintro ⟨#HK, Hb, Hs⟩
  ihave #HiB := (known_bar c) $$ HK
  imod (Rounds.cell_close ER (Rd S) (g := barCell c) (Set.mem_univ (K (barCell c))) id (R := 1) (duties_later S _)) $$ [Hb] with HvB
  · isplitr; · iexact HiB
    iexact Hb
  imod (show iprop(known S K ∗ bigSep Finset.univ fun r : Fin 6 => spent (F := F) r c)
      ⊢ (|={Set.univ}=> (bigSep Finset.univ fun r : Fin 6 => iprop((semVal (sendCell r c) 0 ∗ semVal (recvCell r c) 0)
          ∗ commAny (F := F) r c ∗ sendAny (F := F) r c)) : sProp 𝕄) from
      (bigSep_with_persistent fun r _ => close_one S c r).trans (bigSep_fupd _ _)) $$ [Hs] with H
  · isplitr; · iexact HK
    iexact Hs
  ihave H := apart $$ H
  icases H with ⟨Hv, H⟩
  ihave H := apart $$ H
  icases H with ⟨Hc, Hs⟩
  imodintro
  isplitl [HvB]; · iexact HvB
  isplitl [Hv]; · iexact Hv
  isplitl [Hc]; · iexact Hc
  iexact Hs

end Cert.KernelIdeal.AllReduce
-- ==== Proof.Region.lean ====
/-
  The kernel call as a region of the program: what its windows stage, what it leaves in the result, and the run of
  its one point.
-/
module

public import proofs.«01_k».proof.Proof.Cells
public import proofs.«01_k».proof.Proof.Gen.KernelIdeal.Regions
public import proofs.«01_k».proof.Proof.Gen.KernelIdeal.Points
public import Idealize.ShloMosaic.Lib.Pipeline.FrameBody
public import Idealize.ShloMosaic.Lib.Pipeline.RegionTalk

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- The operands of the kernel on device `c`, after the host's slices. -/
abbrev opX (c : Dev nD) : Vec F S2x128x512 .f32 := Gen.V1 m c main_arg0
abbrev opWq (c : Dev nD) : Vec F S512x512 .f32 := Gen.V1 m c main_arg1
abbrev opWo (c : Dev nD) : Vec F S512x512 .f32 := Gen.V1 m c main_arg4
abbrev opWk (c : Dev nD) : Vec F S512x128 .f32 := Gen.V1 m c main_v9
abbrev opWv (c : Dev nD) : Vec F S512x128 .f32 := Gen.V1 m c main_v14

/-- Column half `h` of the partial output of device `c`. -/
def partOf (h : Fin 2) (c : Dev nD) : HalfV F := part (opX m c) (opWq m c) (opWo m c) (opWk m c) (opWv m c) h

/-- What device `c` leaves in the result: its running sums after the three steps. -/
def total (c : Dev nD) : Vec F S2x128x512 .f32 := join (cur (partOf m) c 6)

/-- What the exchange sends. -/
abbrev sends : Fin 6 → Dev nD → SlotV F := sent (partOf m)

/-! ## The region's data -/

/-- Before the body: the device is ready. After it: all counters at zero. -/
def phi (c : Dev nD) (n : ℕ) : sProp 𝕄 :=
  if n = 0 then iprop(((∃ K, known (sends m) K) ∗ levAts L lv ∗ ready (F := F) c) ∗ slots (F := F) c ∗ ∃ r, prngReg c r)
  else iprop((semVal (barCell c) 0 ∗ Pipeline.ownSems0 (Ix := Unit) (Name := ℕ) (U := UU) (Lvl := ℕ) (Val := Elt F) osem c)
    ∗ slots (F := F) c ∗ ∃ r, prngReg c r)

def dat0 (c : Dev nD) : Dat τ (Elt F) Unit ℕ UU ℕ cfg0 c where
  A w := Gen.V1 m c (Proc.devRef .tc (Pipeline.arrRef spec0 w))
  after w _ := match w with
    | ⟨0, _⟩ => opX m c
    | ⟨1, _⟩ => opWq m c
    | ⟨2, _⟩ => opWo m c
    | ⟨3, _⟩ => opWk m c
    | ⟨4, _⟩ => opWv m c
    | ⟨5, _⟩ => total m c
  Φ t := phi m c t.val
  q _ := fullShare
  owed t := if t.val = 0 then O₀ c else 0

def pdats : (p : Fin 1) → (c : Dev nD) → Dat τ (Elt F) Unit ℕ UU ℕ (cfgs p) c
  | 0 => dat0 m

theorem owed_zero (c : Dev nD) : (pdats m 0 c).owed 0 = O₀ c := by
  show (if ((0 : Fin (cfg0.N + 1)).val = 0) then O₀ c else 0) = O₀ c; exact if_pos rfl
theorem owed_first (c : Dev nD) : (dat0 m c).owed Gen.t0_0.castSucc = O₀ c := by
  show (if (Gen.t0_0.castSucc : Fin (cfg0.N + 1)).val = 0 then O₀ c else 0) = O₀ c; exact if_pos rfl
theorem owed_last (c : Dev nD) : (pdats m 0 c).owed (Fin.last _) = 0 := by
  show (if (Fin.last cfg0.N).val = 0 then O₀ c else 0) = 0
  rw [Fin.val_last, if_neg (by rw [show cfg0.N = 1 from Gen.N_0]; decide)]

/-! ## A window's block is its whole array -/

theorem blk0 (f : Vec F S2x128x512 .f32) : ((cfg0.win 0).blk Gen.t0_0).view.read (Elt F) f = f :=
  View.ld_unit_zero (Val := Elt F) (by decide +kernel) _ f
theorem blk1 (f : Vec F S512x512 .f32) : ((cfg0.win 1).blk Gen.t0_0).view.read (Elt F) f = f :=
  View.ld_unit_zero (Val := Elt F) (by decide +kernel) _ f
theorem blk2 (f : Vec F S512x512 .f32) : ((cfg0.win 2).blk Gen.t0_0).view.read (Elt F) f = f :=
  View.ld_unit_zero (Val := Elt F) (by decide +kernel) _ f
theorem blk3 (f : Vec F S512x128 .f32) : ((cfg0.win 3).blk Gen.t0_0).view.read (Elt F) f = f :=
  View.ld_unit_zero (Val := Elt F) (by decide +kernel) _ f
theorem blk4 (f : Vec F S512x128 .f32) : ((cfg0.win 4).blk Gen.t0_0).view.read (Elt F) f = f :=
  View.ld_unit_zero (Val := Elt F) (by decide +kernel) _ f
theorem blk5 (f : Vec F S2x128x512 .f32) : ((cfg0.win 5).blk Gen.t0_0).view.read (Elt F) f = f :=
  View.ld_unit_zero (Val := Elt F) (by decide +kernel) _ f

/-! ## What the body finds -/

theorem before0 (c : Dev nD) (d) : (dat0 m c).before 0 Gen.t0_0 d = opX m c :=
  ((dat0 m c).before_fetched 0 Gen.t0_0 (Gen.fetch0_0 _) d).trans
    (show (dat0 m c).fetched 0 Gen.t0_0 d = opX m c from blk0 (F := F) (opX m c))
theorem before1 (c : Dev nD) (d) : (dat0 m c).before 1 Gen.t0_0 d = opWq m c :=
  ((dat0 m c).before_fetched 1 Gen.t0_0 (Gen.fetch0_1 _) d).trans
    (show (dat0 m c).fetched 1 Gen.t0_0 d = opWq m c from blk1 (F := F) (opWq m c))
theorem before2 (c : Dev nD) (d) : (dat0 m c).before 2 Gen.t0_0 d = opWo m c :=
  ((dat0 m c).before_fetched 2 Gen.t0_0 (Gen.fetch0_2 _) d).trans
    (show (dat0 m c).fetched 2 Gen.t0_0 d = opWo m c from blk2 (F := F) (opWo m c))
theorem before3 (c : Dev nD) (d) : (dat0 m c).before 3 Gen.t0_0 d = opWk m c :=
  ((dat0 m c).before_fetched 3 Gen.t0_0 (Gen.fetch0_3 _) d).trans
    (show (dat0 m c).fetched 3 Gen.t0_0 d = opWk m c from blk3 (F := F) (opWk m c))
theorem before4 (c : Dev nD) (d) : (dat0 m c).before 4 Gen.t0_0 d = opWv m c :=
  ((dat0 m c).before_fetched 4 Gen.t0_0 (Gen.fetch0_4 _) d).trans
    (show (dat0 m c).fetched 4 Gen.t0_0 d = opWv m c from blk4 (F := F) (opWv m c))

/-! ## What the result array ends with -/

theorem flushed_eq (c : Dev nD) (t : Fin cfg0.N) :
    (dat0 m c).flushed 5 t = ((cfg0.win 5).blk t).view.read (Elt F) (total m c) := by
  obtain rfl := Gen.fin_N0 t
  have ha : (dat0 m c).after 5 Gen.t0_0 = total m c := by dsimp only [dat0]
  unfold Pipeline.Dat.flushed
  rw [ha]
  exact (rfl : _ = total m c).trans (blk5 _).symm

theorem cover (i : S2x128x512.Idx) : ∃ t : Fin cfg0.N, (cfg0.win 5).flush t = true ∧ i ∈ ((cfg0.win 5).blk t).view.set := by
  refine ⟨Gen.t0_0, Gen.flush0_5 _, ?_⟩
  show i ∈ ((View.whole main_v15).slice (win0_5.rect Gen.t0_0)).set
  rw [View.set_slice_whole, Rect.mem_set_unit]
  have e : ∀ a, win0_5.kind.off (win0_5.index Gen.t0_0 a) (win0_5.size a) = 0
      ∧ win0_5.xsize (grid0.coords Gen.t0_0) a = S2x128x512.size a := by decide +kernel
  intro a
  rw [(e a).1, (e a).2]
  exact ⟨Nat.zero_le _, by rw [Nat.zero_add]; exact (i a).isLt⟩

theorem result_eq (c : Dev nD) : (dat0 m c).arrAt 5 cfg0.N = total m c :=
  (dat0 m c).arrAt_eq_of_cover 5 (total m c) (fun t _ => flushed_eq m c t) cover

/-! ## The run of the point -/

theorem phi_pos (c : Dev nD) {n : ℕ} (h : n ≠ 0) : phi m c n = iprop((semVal (barCell c) 0 ∗ Pipeline.ownSems0 (Ix := Unit) (Name := ℕ) (U := UU) (Lvl := ℕ) (Val := Elt F) osem c)
      ∗ slots (F := F) c ∗ ∃ r, prngReg c r) := if_neg h
theorem phi_start (c : Dev nD) : phi m c 0 = iprop(((∃ K, known (sends m) K) ∗ levAts L lv ∗ ready (F := F) c) ∗ slots (F := F) c ∗ ∃ r, prngReg c r) := if_pos rfl
theorem phi_first (c : Dev nD) : (dat0 m c).Φ Gen.t0_0.castSucc = iprop(((∃ K, known (sends m) K) ∗ levAts L lv ∗ ready (F := F) c) ∗ slots (F := F) c ∗ ∃ r, prngReg c r) := phi_start m c
theorem phi_zero (c : Dev nD) : (pdats m 0 c).Φ 0 = iprop(((∃ K, known (sends m) K) ∗ levAts L lv ∗ ready (F := F) c) ∗ slots (F := F) c ∗ ∃ r, prngReg c r) := phi_start m c
theorem phi_second (c : Dev nD) : (dat0 m c).Φ Gen.t0_0.succ
    = iprop((semVal (barCell c) 0 ∗ Pipeline.ownSems0 (Ix := Unit) (Name := ℕ) (U := UU) (Lvl := ℕ) (Val := Elt F) osem c)
      ∗ slots (F := F) c ∗ ∃ r, prngReg c r) := phi_pos m c (n := (Gen.t0_0.succ : Fin (cfg0.N + 1)).val) (by decide +kernel)
theorem phi_last (c : Dev nD) : (pdats m 0 c).Φ (Fin.last _)
    = iprop((semVal (barCell c) 0 ∗ Pipeline.ownSems0 (Ix := Unit) (Name := ℕ) (U := UU) (Lvl := ℕ) (Val := Elt F) osem c)
      ∗ slots (F := F) c ∗ ∃ r, prngReg c r) := phi_pos m c (n := (Fin.last cfg0.N).val) (by
  rw [Fin.val_last, show cfg0.N = 1 from Gen.N_0]; decide)

/-- What is owed at a point, as the core's own statement of it, and back. -/
theorem owesAt_intro (c : Dev nD) (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound
  rw [h0, show (dat0 m c).recorded t = Set.univ from rfl]
  iintro HO
  iexists W
  isplitr
  · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin
  rw [h0]
  iintro ⟨%W, -, HO⟩
  iexists W
  iexact HO

/-- The body runs from ready to closed, and leaves the operands and the sums. -/
theorem body0 (c : Dev nD) : BodyObligation (dat0 m c) defs₀ 𝒱₀ () Set.univ := fun t => by
  obtain rfl := Gen.fin_N0 t
  rw [Gen.bigSep_W0, Gen.bigSep_W0, phi_first, phi_second]
  iintro ⟨⟨⟨⟨%K, #HK⟩, #HL, Hr⟩, Hs, Hp⟩, HO, ⟨%d0, H0⟩, ⟨%d1, H1⟩, ⟨%d2, H2⟩, ⟨%d3, H3⟩, ⟨%d4, H4⟩, ⟨%d5, H5⟩⟩
  ihave HO' := (owesAt_elim m c _ (O₀ c) (owed_first m c)) $$ HO
  icases HO' with ⟨%W, HO⟩
  iapply (Entails.of_eq (congrArg (fun p => run c p _) (body_eq (F := F) (win0_5.stage (cfg0.slots Gen.t0_0 5)) (win0_0.stage (cfg0.slots Gen.t0_0 0))
    (win0_1.stage (cfg0.slots Gen.t0_0 1)) (win0_2.stage (cfg0.slots Gen.t0_0 2)) (win0_3.stage (cfg0.slots Gen.t0_0 3))
    (win0_4.stage (cfg0.slots Gen.t0_0 4)) (hstage0_0 0) (hstage0_1 0) (hstage0_2 0) (hstage0_3 0) (hstage0_4 0) (hstage0_5 0))).symm)
  iapply (body_run (K := K) (W := W) (partOf m) c (win0_5.stage (cfg0.slots Gen.t0_0 5)) (win0_0.stage (cfg0.slots Gen.t0_0 0))
    (win0_1.stage (cfg0.slots Gen.t0_0 1)) (win0_2.stage (cfg0.slots Gen.t0_0 2)) (win0_3.stage (cfg0.slots Gen.t0_0 3))
    (win0_4.stage (cfg0.slots Gen.t0_0 4)) (X0 := opX m c) (X1 := opWq m c) (X2 := opWo m c) (X3 := opWk m c) (X4 := opWv m c)
    (fun h => rfl)) $$ [HO Hr Hs H0 H1 H2 H3 H4 H5]
  · isplitr; · iexact HK
    isplitr; · iexact HL
    isplitl [HO]; · iexact HO
    isplitl [Hr]; · iexact Hr
    isplitl [Hs]; · iexact Hs
    isplitl [H0]; · iapply (Entails.of_eq (congrArg _ (before0 m c d0))) $$ H0
    isplitl [H1]; · iapply (Entails.of_eq (congrArg _ (before1 m c d1))) $$ H1
    isplitl [H2]; · iapply (Entails.of_eq (congrArg _ (before2 m c d2))) $$ H2
    isplitl [H3]; · iapply (Entails.of_eq (congrArg _ (before3 m c d3))) $$ H3
    isplitl [H4]; · iapply (Entails.of_eq (congrArg _ (before4 m c d4))) $$ H4
    iexact H5
  iintro ⟨⟨%W', HO⟩, Hov, H0, H1, H2, H3, H4, H5⟩
  unfold run
  rw [wp_ret]
  imod (close_all (sends m) (K := K) c) $$ [Hov] with ⟨Hb, Ho, Hs⟩
  · isplitr; · iexact HK
    iexact Hov
  imodintro
  isplitl [Hb Ho Hs Hp]
  · isplitl [Hb Ho]
    · isplitl [Hb] <;> iassumption
    isplitl [Hs]; · iexact Hs
    iexact Hp
  isplitl [HO]
  · iapply (owesAt_intro m c Gen.t0_0.succ 0 (owed_last m c) W') $$ HO
  isplitl [H0]; · iexact H0
  isplitl [H1]; · iexact H1
  isplitl [H2]; · iexact H2
  isplitl [H3]; · iexact H3
  isplitl [H4]; · iexact H4
  iexact H5

/-! ## The region -/

theorem kit : Pipeline.PLaunchFacts (nD := nD) (τ := τ) (pcfgs (F := F)) 0 where
  cellOf_inj a := by rw [Subsingleton.elim a Gen.adm]; exact Gen.cellOf_inj
  win := Gen.winFacts0
  pre := Pipeline.PreFacts.none _
  block_pos := Gen.block_pos0
  arr_whole := Gen.arr_whole0
  stage_whole := Gen.stage_whole0

theorem share_full (c : Dev nD) (w : Fin cfg0.W) : (pdats m 0 c).share w = fullShare := by
  unfold Dat.share
  split <;> rfl

theorem stage_level : ∀ (w : Fin 6) (s : Fin (spec0 w).nbuf), lvR (role (.dma ((spec0 w).sem s))) = 0 := by decide

/-- What is owed lies above the staging semaphores' level. -/
theorem cut : Pipeline.LevelCutOwed (pcfgs (F := F)) Gen.adm (pdats m) () L lv 0 (fun _ => 0) where
  hι c w s := by rw [L_tc]; exact Finset.mem_singleton_self _
  hιb c w s := (stage_level w s).le
  hD c t g i h := by
    have e : (pdats m 0 c).owed t = if t.val = 0 then O₀ c else 0 := rfl
    rw [e] at h
    split at h
    · rcases O₀_pos h with ⟨r, rfl⟩ | ⟨k, rfl⟩
      · exact ⟨by rw [L_tc]; exact Finset.mem_singleton_self _, by rw [lv_recv]; exact Nat.lt_of_lt_of_le Nat.zero_lt_two (Nat.le_add_right _ _)⟩
      · exact ⟨by rw [L_tc]; exact Finset.mem_singleton_self _, by rw [lv_bar]; exact Nat.zero_lt_one⟩
    · exact absurd h (Nat.lt_irrefl 0)

/-- What the launch leaves for the region. -/
def given (c : Dev nD) : sProp 𝕄 := iprop((∃ K, known (sends m) K) ∗ dealt (F := F) c ∗ credits (F := F) c)

/-- What is left in the unscoped buffers after the region. -/
abbrev outs : Gen.Outs (F := F) := fun _ r c => if h : r = main_v15 then h ▸ total m c else Classical.arbitrary _

theorem V2_v15 (c : Dev nD) : Gen.V2 m (outs m) c main_v15 = total m c := by
  show Function.update (Gen.V1 m c) (Proc.devRef .tc main_v15) _ _ = _
  rw [Function.update_self]
  rfl

/-- The buffers that no window stages. -/
abbrev others : Finset (DevRef τ sig) := Pipeline.ucRefs τ sig \ Pipeline.arrRefs spec0

theorem V2_others (c : Dev nD) : ∀ b ∈ others \ ∅, Gen.V2 m (outs m) c b = Gen.V1 m c b := fun b hb =>
  Function.update_of_ne (fun h => by
    subst h
    revert hb
    decide) _ _

def region : Pipeline.RegionSeg (pcfgs (F := F)) Gen.adm (pdats m) () defs₀ 𝒱₀ L lv 0 :=
  Pipeline.RegionSeg.ofTalk (pcfgs (F := F)) Gen.adm (pdats m) () defs₀ 𝒱₀ L lv 0 osem osem_facts ∅ others (Finset.empty_subset _)
    kit rfl (fun c => (body0 m c).loose) (fun _ => 0) O₀
    (fun c => (owed_zero m c).trans (zero_add _).symm) (owed_last m) (fun _ => rfl) (share_full m)
    (Gen.V1 m) (Gen.V2 m (outs m)) (V2_others m)
    (given m) (fun c => semVal (barCell c) 0) (fun c => iprop((∃ K, known (sends m) K) ∗ levAts L lv ∗ ready (F := F) c))
    (fun c => semVal (barCell c) 0)
    (fun c => by
      unfold given
      iintro ⟨⟨HK, Hd, Hc⟩, Ho, HL⟩
      iapply (open_all (sends m) c) $$ [HK Hd Hc Ho HL]
      isplitl [HK]; · iexact HK
      isplitl [Hd]; · iexact Hd
      isplitl [Hc]; · iexact Hc
      isplitl [Ho]; · iexact Ho
      iexact HL)
    (fun c => by
      rw [phi_zero]
      iintro ⟨Hs, Hp, -, HX⟩
      isplitl [HX]; · iexact HX
      isplitl [Hs]; · iapply (slots_of_rest c) $$ Hs
      iexact Hp)
    (fun c => by
      rw [phi_last]
      unfold StableHlo.held
      rw [bigSep_empty]
      iintro ⟨⟨Hb, Ho⟩, Hs, Hp⟩
      isplitl [Hs]; · iapply (rest_of_slots c) $$ Hs
      isplitl [Hp]; · iexact Hp
      isplitr; · iempintro
      isplitl [Ho]; · iexact Ho
      iexact Hb)
    (fun c => by iintro H; imodintro; iexact H)
    (fun _ => 0) (cut m) (fun _ => iprop(emp)) (fun c w => rfl)
    (fun c w => by
      fin_cases w
      · exact (dat0 m c).arrAt_in 0 rfl _
      · exact (dat0 m c).arrAt_in 1 rfl _
      · exact (dat0 m c).arrAt_in 2 rfl _
      · exact (dat0 m c).arrAt_in 3 rfl _
      · exact (dat0 m c).arrAt_in 4 rfl _
      · exact (result_eq m c).trans (V2_v15 m c).symm)

/-- A device's state before the region, and what is left after it. -/
def start (c : Dev nD) : sProp 𝕄 := iprop(given m c ∗ (∃ W, owes (c : Thread nD τ) (O₀ c) W) ∗ ∃ r, prngReg c r)
def finish (c : Dev nD) : sProp 𝕄 := iprop(semVal (barCell c) 0 ∗ ∃ W, owes (c : Thread nD τ) 0 W)

theorem arr_sub : Pipeline.arrRefs spec0 ⊆ Pipeline.ucRefs τ sig := by decide

theorem region_pre (c : Dev nD) : iprop(StableHlo.held (c : Thread nD τ) (Pipeline.ucRefs τ sig) (Gen.V1 m c) ∗ start m c) ⊢ (region m).pre c := by
  show _ ⊢ iprop(StableHlo.held (c.tc : Thread nD τ) (Pipeline.arrRefs spec0) (Gen.V1 m c) ∗ (∃ r, prngReg c r)
    ∗ (StableHlo.held (c.tc : Thread nD τ) others (Gen.V1 m c) ∗ emp) ∗ given m c ∗ ∃ Wd, owes (c : Thread nD τ) (0 + O₀ c) Wd)
  rw [StableHlo.held_sub_split (c.tc : Thread nD τ) arr_sub (Gen.V1 m c), zero_add]
  unfold start
  iintro ⟨⟨Ha, Ho⟩, Hg, HO, Hp⟩
  isplitl [Ha]; · iexact Ha
  isplitl [Hp]; · iexact Hp
  isplitl [Ho]
  · isplitl [Ho]; · iexact Ho
    iempintro
  isplitl [Hg]; · iexact Hg
  iexact HO

theorem region_post (c : Dev nD) : (region m).post c
    ⊢ iprop(StableHlo.held (c : Thread nD τ) (Pipeline.ucRefs τ sig) (Gen.V2 m (outs m) c) ∗ finish (F := F) c) := by
  show iprop(StableHlo.held (c.tc : Thread nD τ) (Pipeline.arrRefs spec0) (Gen.V2 m (outs m) c) ∗ (∃ r, prngReg c r)
    ∗ (StableHlo.held (c.tc : Thread nD τ) others (Gen.V2 m (outs m) c) ∗ emp) ∗ semVal (barCell c) 0 ∗ ∃ Wd, owes (c : Thread nD τ) 0 Wd) ⊢ _
  rw [StableHlo.held_sub_split (c.tc : Thread nD τ) arr_sub (Gen.V2 m (outs m) c)]
  unfold finish
  iintro ⟨Ha, -, ⟨Ho, -⟩, Hb, HO⟩
  isplitl [Ha Ho]
  · isplitl [Ha] <;> iassumption
  isplitl [Hb]; · iexact Hb
  iexact HO

end Cert.KernelIdeal.AllReduce
-- ==== Proof.Credits.lean ====
/-
  What the devices owe each other at the start, seen from the cells: three units to every barrier cell, one copy to
  every receive cell.
-/
module

public import proofs.«01_k».proof.Proof.Cells

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What a device owes to a cell at the start, trade by trade and step by step. -/
theorem O₀_sum (d : Dev nD) (g : GSem nD τ sig) :
    O₀ d g () = (∑ r : Fin 6, oweR r d g ()) + ∑ k : Fin 3, oweB k d g () := by
  have h : O₀ d g () = 0 + oweR 5 d g () + oweR 4 d g () + oweR 3 d g () + oweR 2 d g () + oweR 1 d g () + oweR 0 d g ()
      + oweB 2 d g () + oweB 1 d g () + oweB 0 d g () := rfl
  rw [h, Fin.sum_univ_six, Fin.sum_univ_three]
  omega

theorem cell_eq_bar {c d : Dev nD} : barCell c = barCell d ↔ c = d :=
  ⟨fun h => congrArg (fun g : GSem nD τ sig => g.1.1) h, fun h => h ▸ rfl⟩
theorem cell_eq_recv {r r' : Fin 6} {c d : Dev nD} : recvCell r c = recvCell r' d ↔ r = r' ∧ c = d :=
  ⟨fun h => ⟨by
      have h' := congrArg (fun g : GSem nD τ sig => role g.2) h
      simp only [role_recv, Role.recv.injEq] at h'
      exact h', congrArg (fun g : GSem nD τ sig => g.1.1) h⟩, fun ⟨h, h'⟩ => h ▸ h' ▸ rfl⟩
theorem cell_recv_ne_bar {r : Fin 6} {c d : Dev nD} : recvCell r c ≠ barCell d := fun h =>
  absurd (congrArg (fun g : GSem nD τ sig => g.2) h) (fun h => nomatch h)

theorem eq_pr {k : Fin 3} {c d : Dev nD} : c = pr k d ↔ d = pr k c :=
  ⟨fun h => by rw [h, pr_pr], fun h => by rw [h, pr_pr]⟩

theorem oweB_bar (k : Fin 3) (d c : Dev nD) : oweB k d (barCell c) () = if d = pr k c then 1 else 0 := by
  unfold oweB
  rw [tallyAt_apply]
  exact if_congr (by rw [cell_eq_bar, eq_pr]; exact and_iff_left rfl) rfl rfl
theorem oweR_bar (r : Fin 6) (d c : Dev nD) : oweR r d (barCell c) () = 0 := by
  unfold oweR
  rw [tallyAt_apply, if_neg fun h => cell_recv_ne_bar h.1.symm]
theorem oweB_recv (k : Fin 3) (r : Fin 6) (d c : Dev nD) : oweB k d (recvCell r c) () = 0 := by
  unfold oweB
  rw [tallyAt_apply, if_neg fun h => cell_recv_ne_bar h.1]
theorem oweR_recv (r r' : Fin 6) (d c : Dev nD) :
    oweR r' d (recvCell r c) () = if r' = r then (if d = pr (st r) c then N else 0) else 0 := by
  unfold oweR
  rw [tallyAt_apply]
  by_cases h : r' = r
  · subst h
    rw [if_pos rfl]
    exact if_congr (by rw [cell_eq_recv, eq_pr]; exact ⟨fun h => h.1.2, fun h => ⟨⟨rfl, h⟩, rfl⟩⟩) rfl rfl
  · rw [if_neg h, if_neg fun h' => h (cell_eq_recv.mp h'.1).1.symm]

/-- Three units are owed to every barrier cell. -/
theorem owed_bar (c : Dev nD) : ∑ d : Dev nD, O₀ d (barCell c) () = 3 := by
  have h (d : Dev nD) : O₀ d (barCell c) () = ∑ k : Fin 3, if d = pr k c then 1 else 0 := by
    rw [O₀_sum, Finset.sum_eq_zero fun r _ => oweR_bar r d c, Nat.zero_add]
    exact Finset.sum_congr rfl fun k _ => oweB_bar k d c
  rw [Finset.sum_congr rfl fun d _ => h d, Finset.sum_comm,
    Finset.sum_congr rfl fun k _ => (Finset.sum_ite_eq' Finset.univ (pr k c) fun _ => 1).trans (if_pos (Finset.mem_univ _))]
  rfl

/-- One copy is owed to every receive cell. -/
theorem owed_recv (r : Fin 6) (c : Dev nD) : ∑ d : Dev nD, O₀ d (recvCell r c) () = N := by
  have h (d : Dev nD) : O₀ d (recvCell r c) () = if d = pr (st r) c then N else 0 := by
    rw [O₀_sum, Finset.sum_eq_zero (s := (Finset.univ : Finset (Fin 3))) fun k _ => oweB_recv k r d c, Nat.add_zero,
      Finset.sum_congr rfl fun r' _ => oweR_recv r r' d c, Finset.sum_ite_eq' Finset.univ r, if_pos (Finset.mem_univ _)]
  rw [Finset.sum_congr rfl fun d _ => h d, Finset.sum_ite_eq' Finset.univ (pr (st r) c) fun _ => N, if_pos (Finset.mem_univ _)]

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, owed_bar]

theorem launch_recv (r : Fin 6) (c : Dev nD) :
    tallyOn (recvCell r c) (launchCredit (Pipeline.owing O₀) 0 (recvCell r c)) = (tallyAt (recvCell r c) () N : CellTallies nD τ sig Unit) := by
  unfold tallyAt
  refine congrArg _ (Finsupp.ext fun u => ?_)
  cases u
  rw [Pipeline.launchCredit_owing, Finsupp.single_eq_same, owed_recv]

def recvEmb : Fin 6 ↪ SemLoc sig := ⟨fun r => .dma (recvS r), by decide⟩

/-- What the launch credits a device's cells with. -/
theorem credits_intro (c : Dev nD) : (Pipeline.launchCred O₀ c : sProp 𝕄) ⊢ credits (F := F) c := by
  unfold Pipeline.launchCred credits
  rw [bigSep_univ_at _ (SemLoc.reg barS), launch_bar]
  refine BIClass.sep_mono .rfl ?_
  have h : Finset.univ.map recvEmb ⊆ Finset.univ.erase (SemLoc.reg barS) := fun sm h => by
    obtain ⟨r, -, rfl⟩ := Finset.mem_map.mp h
    exact Finset.mem_erase.mpr ⟨(by intro h; exact nomatch h), Finset.mem_univ _⟩
  refine BI.Entails.trans (bigSep_subset h) ?_
  rw [bigSep_map]
  exact BI.bigSep_mono fun r _ => by
    show (cred (tallyOn (recvCell r c) (launchCredit (Pipeline.owing O₀) 0 (recvCell r c))) : sProp 𝕄) ⊢ _
    rw [launch_recv r c]

end Cert.KernelIdeal.AllReduce
-- ==== Proof.Launch.lean ====
/-
  The launch: the invariants of all cells, the tokens dealt to the devices, and the run of the whole program.
-/
module

public import proofs.«01_k».proof.Proof.Region
public import proofs.«01_k».proof.Proof.Credits
public import Idealize.ShloMosaic.Lib.Quiescent

@[expose] public section

noncomputable section

namespace Cert.KernelIdeal.AllReduce

open Cert.KernelIdeal
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

def barEmb : Dev nD ↪ GSem nD τ sig := ⟨fun c => barCell c, fun _ _ h => cell_eq_bar.mp h⟩
theorem osem_inj : Function.Injective osem := by decide
def ownEmb : Dev nD × (Fin 6 × Fin 2) ↪ GSem nD τ sig :=
  ⟨fun p => ((p.1 : Thread nD τ), osem p.2), fun _ _ h =>
    Prod.ext (congrArg (fun g : GSem nD τ sig => g.1.1) h) (osem_inj (congrArg Prod.snd h))⟩

/-- The barrier cells, and the cells of the kernel's own semaphores. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h h'
  obtain ⟨c, -, rfl⟩ := Finset.mem_map.mp h
  obtain ⟨⟨d, p⟩, -, h⟩ := Finset.mem_map.mp h'
  exact (by decide : ∀ p, osem p ≠ .reg barS) p (congrArg Prod.snd h)

theorem bar_mem (c : Dev nD) : barCell c ∈ (barCells ∪ ownCells : Finset (GSem nD τ sig)) :=
  Finset.mem_union_left _ (Finset.mem_map_of_mem barEmb (Finset.mem_univ c))
theorem send_mem (r : Fin 6) (c : Dev nD) : sendCell r c ∈ (barCells ∪ ownCells : Finset (GSem nD τ sig)) :=
  Finset.mem_union_right _ (Finset.mem_map_of_mem ownEmb (Finset.mem_univ (c, (r, (0 : Fin 2)))))
theorem recv_mem (r : Fin 6) (c : Dev nD) : recvCell r c ∈ (barCells ∪ ownCells : Finset (GSem nD τ sig)) :=
  Finset.mem_union_right _ (Finset.mem_map_of_mem ownEmb (Finset.mem_univ (c, (r, (1 : Fin 2)))))

/-- The duties of a device's cells: three at the barrier, one at each send and each receive cell. -/
abbrev Duty : Type := Fin 3 ⊕ (Fin 6 ⊕ Fin 6)
def dutyOf : Duty → SemLoc sig × Fin 3
  | .inl k => (.reg barS, k)
  | .inr (.inl r) => (.dma (sendS r), 0)
  | .inr (.inr r) => (.dma (recvS r), 0)
theorem dutyOf_inj : Function.Injective dutyOf := by decide
def toks : Finset (GSem nD τ sig × ℕ × Fin 3) :=
  Finset.univ.map ⟨fun p : Dev nD × Duty => (((p.1 : Thread nD τ), (dutyOf p.2).1), 0, (dutyOf p.2).2), fun _ _ h =>
    Prod.ext (congrArg (fun t : GSem nD τ sig × ℕ × Fin 3 => t.1.1.1) h)
      (dutyOf_inj (Prod.ext (congrArg (fun t : GSem nD τ sig × ℕ × Fin 3 => t.1.2) h)
        (congrArg (fun t : GSem nD τ sig × ℕ × Fin 3 => t.2.2) h)))⟩

/-- The user part of the launch: the pipeline's and the exchange's. -/
def u₀ : UU :=
  (initOf (Pipeline.cells cfgs Gen.cellOf_inj) (Pipeline.launchToks cfgs Gen.cellOf_inj), launchOf barCells ownCells toks)

/-- The exchange's part, all of it parked at device 0. -/
def G (c : Dev nD) : sProp 𝕄 := if c = 0 then BI.own (ER (launchOf barCells ownCells toks)) else iprop(emp)

theorem G_all : bigSep Finset.univ (G (F := F)) = BI.own (ER (launchOf barCells ownCells toks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

/-! ## The dealing -/

variable (S : Fin 6 → Dev nD → SlotV F)

/-- All the invariants, and the first round of every barrier cell. -/
def records (κ : GSem nD τ sig → ℕ) : sProp 𝕄 :=
  iprop((bigSep (barCells ∪ ownCells) fun g => cellInv ER (Rd S) (κ g) g) ∗ bigSep barCells fun g => reached ER g 0)

instance records_persistent (κ : GSem nD τ sig → ℕ) : BI.Persistent (records S κ) := by unfold records; infer_instance

theorem record_at (κ : GSem nD τ sig → ℕ) {g : GSem nD τ sig} (hg : g ∈ (barCells ∪ ownCells : Finset (GSem nD τ sig))) :
    records S κ ⊢ cellInv ER (Rd S) (κ g) g := by
  have h := bigSep_elim (M := 𝕄) hg (Φ := fun g => cellInv ER (Rd S) (κ g) g)
  exact sep_elim_left.trans h

/-- A record for each member of a family. -/
theorem record_all {I : Type} [Fintype I] [DecidableEq I] (κ : GSem nD τ sig → ℕ) (cell : I → GSem nD τ sig)
    (hg : ∀ i, cell i ∈ (barCells ∪ ownCells : Finset (GSem nD τ sig))) :
    records S κ ⊢ bigSep Finset.univ fun i => cellInv ER (Rd S) (κ (cell i)) (cell i) :=
  BI.Entails.trans (bigSep_of_persistent Finset.univ _) (BI.bigSep_mono fun i _ => record_at S κ (hg i))

theorem known_of_records (κ : GSem nD τ sig → ℕ) : records S κ ⊢ known S κ := by
  have h : (bigSep barCells fun g => (reached ER g 0 : sProp 𝕄)) ⊢ bigSep Finset.univ fun c : Dev nD => reached ER (barCell c) 0 :=
    Entails.of_eq (bigSep_map (s := Finset.univ) barEmb (Φ := fun g : GSem nD τ sig => (reached ER g 0 : sProp 𝕄)))
  unfold known
  iintro #H
  isplitr; · iapply (record_all S κ (fun c : Dev nD => barCell c) bar_mem); iexact H
  isplitr; · iapply (record_all S κ (fun p : Fin 6 × Dev nD => sendCell p.1 p.2) fun p => send_mem p.1 p.2); iexact H
  isplitr; · iapply (record_all S κ (fun p : Fin 6 × Dev nD => recvCell p.1 p.2) fun p => recv_mem p.1 p.2); iexact H
  iapply h
  unfold records
  icases H with ⟨-, H⟩
  iexact H

/-- The tokens, device by device: each device its own cells'. -/
theorem toks_split : bigSep toks (fun x => (dutyTok ER x.1 x.2.1 x.2.2 : sProp 𝕄))
    = bigSep Finset.univ fun c : Dev nD => iprop((bigSep Finset.univ fun k : Fin 3 => dutyTok ER (barCell c) 0 k)
      ∗ (bigSep Finset.univ fun r : Fin 6 => dutyTok ER (sendCell r c) 0 (0 : Fin 3))
      ∗ (bigSep Finset.univ fun r : Fin 6 => dutyTok ER (recvCell r c) 0 (0 : Fin 3))) := by
  unfold toks
  rw [bigSep_map, bigSep_univ_prod]
  refine bigSep_congr fun c _ => ?_
  rw [bigSep_univ_sum, bigSep_univ_sum]
  rfl

/-- A family of tokens indexed by steps goes around: each device its partners'. -/
theorem around {I : Type} [Fintype I] [DecidableEq I] (s : I → Fin 3) (Φ : I → Dev nD → sProp 𝕄) :
    (bigSep Finset.univ fun c : Dev nD => bigSep Finset.univ fun i : I => Φ i c)
      = bigSep Finset.univ fun c : Dev nD => bigSep Finset.univ fun i : I => Φ i (pr (s i) c) := by
  rw [bigSep_univ_comm, bigSep_univ_comm (fun (c : Dev nD) (i : I) => Φ i (pr (s i) c))]
  exact bigSep_congr fun i _ => bigSep_univ_equiv (swap (s i)) (Φ i)

theorem toks_around : bigSep toks (fun x => (dutyTok ER x.1 x.2.1 x.2.2 : sProp 𝕄))
    ⊢ bigSep Finset.univ fun c : Dev nD => iprop((bigSep Finset.univ fun k : Fin 3 => dutyTok ER (barCell (pr k c)) 0 k)
      ∗ (bigSep Finset.univ fun r : Fin 6 => dutyTok ER (sendCell r c) 0 (0 : Fin 3))
      ∗ (bigSep Finset.univ fun r : Fin 6 => dutyTok ER (recvCell r (pr (st r) c)) 0 (0 : Fin 3))) := by
  rw [toks_split, bigSep_sep', bigSep_sep', bigSep_sep', bigSep_sep',
    around id fun k c => (dutyTok ER (barCell c) 0 k : sProp 𝕄),
    around st fun r c => (dutyTok ER (recvCell r c) 0 (0 : Fin 3) : sProp 𝕄)]
  exact BI.Entails.refl _

theorem dealt_all :
    iprop((bigSep Finset.univ fun c : Dev nD => atPos ER (barCell c) 0 ∅ 0)
      ∗ (bigSep Finset.univ fun c : Dev nD => bigSep Finset.univ fun r : Fin 6 => iprop(openTok ER (sendCell r c) ∗ openTok ER (recvCell r c)))
      ∗ (bigSep Finset.univ fun c : Dev nD => iprop((bigSep Finset.univ fun k : Fin 3 => dutyTok ER (barCell (pr k c)) 0 k)
        ∗ (bigSep Finset.univ fun r : Fin 6 => dutyTok ER (sendCell r c) 0 (0 : Fin 3))
        ∗ (bigSep Finset.univ fun r : Fin 6 => dutyTok ER (recvCell r (pr (st r) c)) 0 (0 : Fin 3)))))
      ⊢ (bigSep Finset.univ (dealt (F := F)) : sProp 𝕄) := by
  have h (c : Dev nD) : iprop(atPos ER (barCell c) 0 ∅ 0
      ∗ (bigSep Finset.univ fun r : Fin 6 => iprop(openTok ER (sendCell r c) ∗ openTok ER (recvCell r c)))
      ∗ (bigSep Finset.univ fun k : Fin 3 => dutyTok ER (barCell (pr k c)) 0 k)
      ∗ (bigSep Finset.univ fun r : Fin 6 => dutyTok ER (sendCell r c) 0 (0 : Fin 3))
      ∗ (bigSep Finset.univ fun r : Fin 6 => dutyTok ER (recvCell r (pr (st r) c)) 0 (0 : Fin 3))) ⊢ (dealt (F := F) c : sProp 𝕄) := by
    unfold dealt
    iintro ⟨Ha, Ho, Hb, Hs, Hr⟩
    isplitl [Ha]; · iexact Ha
    isplitl [Hb]; · iexact Hb
    isplitl [Ho]; · iexact Ho
    isplitl [Hs]; · iexact Hs
    iexact Hr
  rw [← bigSep_sep', ← bigSep_sep']
  exact BI.bigSep_mono fun c _ => h c

/-- The exchange's invariants allocated and its tokens dealt. -/
theorem deal :
    iprop((bigSep Finset.univ fun c : Dev nD => semVal (barCell c) 0) ∗ bigSep Finset.univ (G (F := F)))
      ⊢ (|={Set.univ}=> iprop((∃ K, known S K) ∗ bigSep Finset.univ (dealt (F := F))) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄))
      ⊢ bigSep Finset.univ (fun c : Dev nD => bigSep Finset.univ fun r : Fin 6 => iprop(openTok ER (sendCell r c) ∗ openTok ER (recvCell r c))) :=
    Entails.of_eq (by
      rw [bigSep_map, bigSep_univ_prod]
      refine bigSep_congr fun c _ => ?_
      rw [bigSep_univ_prod]
      exact bigSep_congr fun r _ => BI.bigSep_fin_two (fun k : Fin 2 => (openTok ER ((c : Thread nD τ), osem (r, k)) : sProp 𝕄)))
  rw [G_all]
  iintro ⟨Hv, Hu⟩
  imod (Rounds.fund_launch ER (Rd S) cells_disjoint (fun g _ h => h) toks) $$ [Hv Hu] with ⟨%κ, -, #Hi, #Hr, Ha, Ho, Ht⟩
  · isplitl [Hv]
    · iapply hv $$ Hv
    · iexact Hu
  imodintro
  isplitr
  · iexists κ
    iapply (known_of_records S κ)
    unfold records
    isplitr; · iexact Hi
    iexact Hr
  ihave Ht' := (toks_around (F := F)) $$ Ht
  iapply (dealt_all (F := F))
  isplitl [Ha]; · iapply (ha) $$ Ha
  isplitl [Ho]; · iapply (ho) $$ Ho
  iexact Ht'

/-! ## The run -/

variable (m : (ℓ : Loc nD τ sig) → Buf (Elt F) ℓ) (ρ : Dev nD → PrngReg)

/-- A device's state at the launch and at the end. -/
abbrev first (c : Dev nD) : sProp 𝕄 := iprop(StableHlo.held (c : Thread nD τ) (Pipeline.ucRefs τ sig) (Gen.V0 m c) ∗ start m c)
abbrev last (c : Dev nD) : sProp 𝕄 :=
  iprop(StableHlo.held (c : Thread nD τ) (Pipeline.ucRefs τ sig) (Gen.V2 m (outs m) c) ∗ semVal (barCell c) 0)

theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device holds at the launch besides its part of the exchange. -/
def held0 (c : Dev nD) : sProp 𝕄 :=
  iprop(StableHlo.held (c : Thread nD τ) (Pipeline.ucRefs τ sig) (Gen.V0 m c) ∗ credits (F := F) c
    ∗ (∃ W, owes (c : Thread nD τ) (O₀ c) W) ∗ ∃ r, prngReg c r)

theorem launch_core (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(held0 m c ∗ (semVal (barCell c) 0 ∗ G (F := F) c)) : sProp 𝕄) := by
  rw [show (unscopedBufs c (fun b => m ((c : Thread nD τ).loc b)) : sProp 𝕄) = StableHlo.held (c : Thread nD τ) (Pipeline.ucRefs τ sig) (Gen.V0 m c)
      from Pipeline.unscopedBufs_held (Ix := Unit) (Name := ℕ) (U := UU) (Lvl := ℕ) c (Gen.V0 m c), unscoped_bar]
  unfold held0
  iintro ⟨Hh, Hv, HO, Hc, Hp, HG⟩
  isplitl [Hh HO Hc Hp]
  · isplitl [Hh]; · iexact Hh
    isplitl [Hc]; · iapply (credits_intro (F := F) c) $$ Hc
    isplitl [HO]
    · iexists ∅; iexact HO
    iexists (ρ c); iexact Hp
  isplitl [Hv]; · iexact Hv
  iexact HG

theorem first_intro (c : Dev nD) : iprop((∃ K, known (sends m) K) ∗ (held0 m c ∗ dealt (F := F) c)) ⊢ first m c := by
  unfold held0 first start given
  iintro ⟨HK, ⟨Hh, Hc, HO, Hp⟩, Hd⟩
  isplitl [Hh]; · iexact Hh
  isplitl [HK Hd Hc]
  · isplitl [HK]; · iexact HK
    isplitl [Hd]; · iexact Hd
    iexact Hc
  isplitl [HO]; · iexact HO
  iexact Hp

/-- The launch: every device reaches its first state. -/
theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (first m) : sProp 𝕄) := by
  have hc : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (iprop((bigSep Finset.univ fun c : Dev nD => held0 m c)
          ∗ ((bigSep Finset.univ fun c : Dev nD => semVal (barCell c) 0) ∗ bigSep Finset.univ (G (F := F)))) : sProp 𝕄) := by
    rw [← bigSep_sep', ← bigSep_sep']
    exact BI.bigSep_mono fun c _ => launch_core m ρ c
  have hf : iprop((∃ K, known (sends m) K) ∗ ((bigSep Finset.univ fun c : Dev nD => held0 m c) ∗ bigSep Finset.univ (dealt (F := F))))
      ⊢ (bigSep Finset.univ (first m) : sProp 𝕄) := by
    rw [← bigSep_sep']
    exact bigSep_with_persistent fun c _ => first_intro m c
  iintro ⟨H, -⟩
  ihave H' := (hc) $$ H
  icases H' with ⟨Hh, Hd⟩
  imod (deal (sends m)) $$ Hd with ⟨HK, Hd⟩
  imodintro
  iapply (hf)
  isplitl [HK]; · iexact HK
  isplitl [Hh]; · iexact Hh
  iexact Hd

theorem unscoped_eq : ∀ sm : SemLoc sig, sm.isScoped .tc = false → sm = .reg barS := by decide

/-- The program's items on a device. -/
abbrev items (c : Dev nD) : List (Pipeline.Seg (pcfgs (F := F)) Gen.adm (pdats m) () defs₀ 𝒱₀ L lv) :=
  Gen.segs m 𝒱₀ L lv ![start m, finish (F := F)] () (pdats m) (region m) c

set_option backward.isDefEq.respectTransparency.types false in
/-- The run of the whole program: it ends with the arguments unchanged, the sums of the partial outputs in the
    result, and all counters at zero. -/
theorem run_main : θ_run defs (onTc (τ := τ) (main (F := F))) ⟨m, fun _ => 0, ρ⟩ (fun r => (∀ c : Dev nD,
      r.2.mem ((c.tc : Thread nD τ).loc main_v15) = total m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) Gen.adm (pdats m) () Gen.cellOf_inj EP defs₀ 𝒱₀ L lv m ρ main (items m)
    (fun c Q => by
      rewrite [Gen.main_chain c, Pipeline.Seg.run_eq_chain,
        show (items m c).map Pipeline.Seg.prog = [StableHlo.seq (Gen.hostOps0 c), Prog.lift (.customCall (Pipeline.entry 0) ())] from rfl]
      dsimp (config := { failIfUnchanged := false }) only
      exact .rfl)
    (fun c => by simp only [items, Gen.segs, Pipeline.Seg.pipes_host, Pipeline.Seg.pipes_region, Pipeline.Seg.pipes_nil]; decide)
    O₀ L_of_ne G u₀ ?_ (first m) (last m) (fun c => ⟨.rfl, region_pre m c, (region_post m c).trans ?_⟩) (launch m ρ)
    (fun c s => (s.mem ((c.tc : Thread nD τ).loc main_v15) = total m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (barCell c) = 0)
    (fun c s' => ?_) (fun s h hs => ⟨fun c => (h c).1, sem_eq_zero hs fun c sm hsm => by
      obtain rfl := unscoped_eq sm hsm
      exact (h c).2⟩)
  · unfold u₀
    iintro Hu
    ihave H := (ownU_pair _ _) $$ Hu
    icases H with ⟨HP, HX⟩
    imodintro
    isplitl [HP]; · iexact HP
    iapply (Entails.of_eq (G_all (F := F)).symm) $$ HX
  · unfold finish last
    iintro ⟨Hh, Hb, HO⟩
    isplitl [Hh Hb]
    · isplitl [Hh] <;> iassumption
    iexact HO
  · unfold last StableHlo.held
    iintro ⟨⟨Hh, Hb⟩, HSI⟩
    icombine HSI Hb gives %hb
    ihave Hr := (pointsTo_read_all (Pipeline.ucRefs τ sig) (fun b => ((c : Thread nD τ).1, b)) (Gen.V2 m (outs m) c) s') $$ [Hh HSI]
    · isplitl [Hh] <;> iassumption
    icases Hr with ⟨%h, HSI⟩
    imodintro
    isplitr
    · ipureintro
      exact ⟨⟨(h (Proc.devRef .tc main_v15) (Finset.mem_filter.mpr ⟨StableHlo.devRef_mem_tcRefs main_v15, by decide⟩)).trans (V2_v15 m c),
        (h (Proc.devRef .tc main_arg0) (Finset.mem_filter.mpr ⟨StableHlo.devRef_mem_tcRefs main_arg0, by decide⟩)).trans (Gen.V2_main_arg0 m (outs m) c),
        (h (Proc.devRef .tc main_arg1) (Finset.mem_filter.mpr ⟨StableHlo.devRef_mem_tcRefs main_arg1, by decide⟩)).trans (Gen.V2_main_arg1 m (outs m) c),
        (h (Proc.devRef .tc main_arg2) (Finset.mem_filter.mpr ⟨StableHlo.devRef_mem_tcRefs main_arg2, by decide⟩)).trans (Gen.V2_main_arg2 m (outs m) c),
        (h (Proc.devRef .tc main_arg3) (Finset.mem_filter.mpr ⟨StableHlo.devRef_mem_tcRefs main_arg3, by decide⟩)).trans (Gen.V2_main_arg3 m (outs m) c),
        (h (Proc.devRef .tc main_arg4) (Finset.mem_filter.mpr ⟨StableHlo.devRef_mem_tcRefs main_arg4, by decide⟩)).trans (Gen.V2_main_arg4 m (outs m) c)⟩,
        by simpa using hb⟩
    iexact HSI

end Cert.KernelIdeal.AllReduce
-- ==== Proof.Attention.lean ====
/-
  One attention head as mathematics, over the extended reals.

  Scores are the products of queries and keys times one eighth, the literal of both programs; each row of scores is
  shifted by its maximum and exponentiated; the head is the weighted sum of the values over the sum of the weights.
-/
module

public import Idealize.ShloMosaic.Lib.Pointwise

@[expose] public section

noncomputable section

namespace Cert.Attention

open Idealize.ShloMosaic

/-- A batch row of the input times 64 columns of a weight. -/
def project (x : Fin 128 → Fin 512 → EReal) (w : Fin 512 → Fin 64 → EReal) (i : Fin 128) (d : Fin 64) : EReal := ∑ t, x i t * w t d

/-- The score of query `i` against key `j`. -/
def score (q k : Fin 128 → Fin 64 → EReal) (i j : Fin 128) : EReal := (∑ d, q i d * k j d) * Ideal.ofBits .f32 0x3E000000#32

/-- The weight of key `j` for query `i`. -/
def weight (q k : Fin 128 → Fin 64 → EReal) (i j : Fin 128) : EReal :=
  Ideal.exp (score q k i j - Finset.univ.fold max (Ideal.ofBits .f32 0xFF800000#32) fun j' => score q k i j')

/-- One head from its queries, keys and values. -/
def mix (q k v : Fin 128 → Fin 64 → EReal) (i : Fin 128) (d : Fin 64) : EReal :=
  Ideal.div (∑ j, weight q k i j * v j d) (∑ j, weight q k i j)

/-- One head of one batch row, from its columns of the three weights. -/
def head (x : Fin 128 → Fin 512 → EReal) (wq wk wv : Fin 512 → Fin 64 → EReal) : Fin 128 → Fin 64 → EReal :=
  mix (project x wq) (project x wk) (project x wv)

end Cert.Attention

end
-- ==== Proof.Heads.lean ====
/-
  The eight heads of one device, over the extended reals.

  `attn_at` says that what the kernel computes as its heads, read at an index, is one head of the mathematics
  (`Cert.Attention.head`) on that head's columns of the device's weights. Four query heads share a key and value head.
-/
module

public import proofs.«01_k».proof.Proof.Program
public import proofs.«01_k».proof.Proof.Attention

@[expose] public section

set_option maxRecDepth 16384

noncomputable section

namespace Cert.KernelIdeal.AllReduce

open Cert.KernelIdeal
open Cert.KernelIdeal.Facts₀ Cert.KernelIdeal.Facts
open Idealize.ShloMosaic Idealize.ShloMosaic.TcCoe

/-- One head at an index. -/
theorem head_at (q k v : FVec Ideal S128x64 .f32) (i : Fin 128) (d : Fin 64) :
    head (F := Ideal) q k v (ix2 i d)
      = Attention.mix (fun i d => q (ix2 i d)) (fun i d => k (ix2 i d)) (fun i d => v (ix2 i d)) i d := by
  pointwise [head, weigh, expo, scores, Attention.mix, Attention.weight, Attention.score]

section Slices

variable (wq : Vec Ideal S512x512 .f32) (wk wv : Vec Ideal S512x128 .f32) (x : Vec Ideal S1x128x512 .f32) (i : Fin 128) (d : Fin 64)

/-- Columns `a …` of the projections, in the queries' part. -/
theorem slice_q (o : ℕ) (h : S128x768.Slices ![0, o] S128x64) (ho : o + 64 ≤ 512) :
    extractStridedSlice S128x64 ![0, o] (proj (F := Ideal) wq wk wv x) h (ix2 i d)
      = Attention.project (fun i t => x (ix3 0 i t)) (fun t d => wq (ix2 t ⟨o + d.val, by omega⟩)) i d := by
  have hd := d.isLt
  pointwise [proj, Attention.project]
  refine Finset.sum_congr rfl fun t _ => ?_
  rw [dif_pos (by omega)]

/-- Columns `512 + a …`, in the keys' part. -/
theorem slice_k (o a : ℕ) (h : S128x768.Slices ![0, o] S128x64) (ho : o = 512 + a) (ha : a + 64 ≤ 128) :
    extractStridedSlice S128x64 ![0, o] (proj (F := Ideal) wq wk wv x) h (ix2 i d)
      = Attention.project (fun i t => x (ix3 0 i t)) (fun t d => wk (ix2 t ⟨a + d.val, by omega⟩)) i d := by
  have hd := d.isLt
  subst ho
  pointwise [proj, Attention.project]
  refine Finset.sum_congr rfl fun t _ => ?_
  rw [dif_neg (by omega), dif_pos (by omega)]
  have e : (⟨512 + a + d.val - 512, by omega⟩ : Fin 128) = ⟨a + d.val, by omega⟩ := Fin.ext (by show _ - _ = _ + _; omega)
  rw [e]

/-- Columns `640 + a …`, in the values' part. -/
theorem slice_v (o a : ℕ) (h : S128x768.Slices ![0, o] S128x64) (ho : o = 640 + a) (ha : a + 64 ≤ 128) :
    extractStridedSlice S128x64 ![0, o] (proj (F := Ideal) wq wk wv x) h (ix2 i d)
      = Attention.project (fun i t => x (ix3 0 i t)) (fun t d => wv (ix2 t ⟨a + d.val, by omega⟩)) i d := by
  have hd := d.isLt
  subst ho
  pointwise [proj, Attention.project]
  refine Finset.sum_congr rfl fun t _ => ?_
  rw [dif_neg (by omega), dif_neg (by omega)]
  have e : (⟨640 + a + d.val - 512 - 128, by omega⟩ : Fin 128) = ⟨a + d.val, by omega⟩ := Fin.ext (by show _ - _ - _ = _ + _; omega)
  rw [e]

/-- One head on three column slices of the projections. -/
theorem head_slices (g : Fin 8) (oq ok ov : ℕ) (hq : S128x768.Slices ![0, oq] S128x64) (hk : S128x768.Slices ![0, ok] S128x64)
    (hv : S128x768.Slices ![0, ov] S128x64) (eq : oq = 64 * g.val) (ek : ok = 512 + 64 * (g.val / 4)) (ev : ov = 640 + 64 * (g.val / 4))
    (d' : Fin 64) (ed : d' = d) :
    head (F := Ideal) (extractStridedSlice S128x64 ![0, oq] (proj (F := Ideal) wq wk wv x) hq)
        (extractStridedSlice S128x64 ![0, ok] (proj (F := Ideal) wq wk wv x) hk)
        (extractStridedSlice S128x64 ![0, ov] (proj (F := Ideal) wq wk wv x) hv) (ix2 i d')
      = Attention.head (fun i t => x (ix3 0 i t)) (fun t d => wq (ix2 t ⟨64 * g.val + d.val, by omega⟩))
        (fun t d => wk (ix2 t ⟨64 * (g.val / 4) + d.val, by omega⟩)) (fun t d => wv (ix2 t ⟨64 * (g.val / 4) + d.val, by omega⟩)) i d := by
  subst ed eq
  rw [head_at]
  unfold Attention.head
  congr 1
  · funext i d; exact slice_q wq wk wv x i d _ hq (by omega)
  · funext i d; exact slice_k wq wk wv x i d _ _ hk ek (by omega)
  · funext i d; exact slice_v wq wk wv x i d _ _ hv ev (by omega)

/-- The device's heads at an index: column `64 g + d` is entry `d` of head `g`. -/
theorem attn_at (g : Fin 8) :
    attn (F := Ideal) (proj (F := Ideal) wq wk wv x) (ix2 i ⟨64 * g.val + d.val, by omega⟩)
      = Attention.head (fun i t => x (ix3 0 i t)) (fun t d => wq (ix2 t ⟨64 * g.val + d.val, by omega⟩))
        (fun t d => wk (ix2 t ⟨64 * (g.val / 4) + d.val, by omega⟩)) (fun t d => wv (ix2 t ⟨64 * (g.val / 4) + d.val, by omega⟩)) i d := by
  have hd := d.isLt
  have hg := g.isLt
  generalize hR : Attention.head _ _ _ _ i d = R
  pointwise [attn]
  split_ifs <;> subst hR <;>
    exact head_slices wq wk wv x i d g _ _ _ _ _ _ (by omega) (by omega) (by omega) _ (Fin.ext (by dsimp only; omega))

end Slices

end Cert.KernelIdeal.AllReduce

end
-- ==== Proof.Partial.lean ====
/-
  One device's partial output over the extended reals, at an index.
-/
module

public import proofs.«01_k».proof.Proof.Heads
public import proofs.«01_k».proof.Proof.Sums

@[expose] public section

set_option maxRecDepth 16384

noncomputable section

namespace Cert.KernelIdeal.AllReduce

open Cert.KernelIdeal
open Cert.KernelIdeal.Facts₀ Cert.KernelIdeal.Facts
open Idealize.ShloMosaic Idealize.ShloMosaic.TcCoe

/-- Column `t` of the device's heads is entry `t % 64` of head `t / 64`. -/
theorem attn_col (wq : Vec Ideal S512x512 .f32) (wk wv : Vec Ideal S512x128 .f32) (x : Vec Ideal S1x128x512 .f32) (i : Fin 128) (t : Fin 512) :
    attn (F := Ideal) (proj (F := Ideal) wq wk wv x) (ix2 i t)
      = Attention.head (fun i s => x (ix3 0 i s)) (fun s d => wq (ix2 s ⟨64 * (t.val / 64) + d.val, by omega⟩))
        (fun s d => wk (ix2 s ⟨64 * (t.val / 64 / 4) + d.val, by omega⟩)) (fun s d => wv (ix2 s ⟨64 * (t.val / 64 / 4) + d.val, by omega⟩))
        i ⟨t.val % 64, Nat.mod_lt _ (by decide)⟩ := by
  have e : t = ⟨64 * (t.val / 64) + t.val % 64, by omega⟩ := Fin.ext (by dsimp only; omega)
  have h := attn_at wq wk wv x i ⟨t.val % 64, Nat.mod_lt _ (by decide)⟩ ⟨t.val / 64, by omega⟩
  exact (congrArg (fun u : Fin 512 => attn (F := Ideal) (proj (F := Ideal) wq wk wv x) (ix2 i u)) e).trans h

/-- A batch row's heads times the output weights' half of columns. -/
theorem blk_at (h : Fin 2) (a : FVec Ideal S128x512 .f32) (wo : Vec Ideal S512x512 .f32) (i : Fin 128) (n : Fin 256) :
    blk (F := Ideal) h a wo (ix2 i n) = ∑ t : Fin 512, (a (ix2 i t) * wo (ix2 t ⟨256 * h.val + n.val, by omega⟩) : EReal) := by
  pointwise [blk]

/-- Row `b` of the input through its rectangle. -/
theorem row_at {α : Type} (X : S2x128x512.Idx → α) (b : Fin 2) (i : Fin 128) (t : Fin 512) :
    X ((rowR b).emb (ix3 0 i t)) = X (ix3 b i t) := by
  refine congrArg X (funext fun k => Fin.ext ?_)
  match k with
  | 0 => show b.val + 1 * 0 = b.val; omega
  | 1 => show 0 + 1 * i.val = i.val; omega
  | 2 => show 0 + 1 * t.val = t.val; omega

/-- The partial output at batch row `b`, row `i` and column `256 h + n`. -/
theorem part_at (X : Vec Ideal S2x128x512 .f32) (Wq Wo : Vec Ideal S512x512 .f32) (Wk Wv : Vec Ideal S512x128 .f32) (h : Fin 2)
    (b : Fin 2) (i : Fin 128) (n : Fin 256) :
    part (F := Ideal) X Wq Wo Wk Wv h (ix3 b i n)
      = ∑ t : Fin 512, (Attention.head (fun i s => X (ix3 b i s)) (fun s d => Wq (ix2 s ⟨64 * (t.val / 64) + d.val, by omega⟩))
          (fun s d => Wk (ix2 s ⟨64 * (t.val / 64 / 4) + d.val, by omega⟩)) (fun s d => Wv (ix2 s ⟨64 * (t.val / 64 / 4) + d.val, by omega⟩))
          i ⟨t.val % 64, Nat.mod_lt _ (by decide)⟩ * Wo (ix2 t ⟨256 * h.val + n.val, by omega⟩) : EReal) := by
  have row : ∀ b : Fin 2, blk (F := Ideal) h (attn (proj Wq Wk Wv fun j => X ((rowR b).emb j))) Wo (ix2 i n)
      = ∑ t : Fin 512, (Attention.head (fun i s => X (ix3 b i s)) (fun s d => Wq (ix2 s ⟨64 * (t.val / 64) + d.val, by omega⟩))
          (fun s d => Wk (ix2 s ⟨64 * (t.val / 64 / 4) + d.val, by omega⟩)) (fun s d => Wv (ix2 s ⟨64 * (t.val / 64 / 4) + d.val, by omega⟩))
          i ⟨t.val % 64, Nat.mod_lt _ (by decide)⟩ * Wo (ix2 t ⟨256 * h.val + n.val, by omega⟩) : EReal) := by
    intro b
    rw [blk_at]
    refine Finset.sum_congr rfl fun t _ => ?_
    rw [attn_col]
    simp only [row_at]
  match b with
  | 0 => exact row 0
  | 1 => exact row 1

end Cert.KernelIdeal.AllReduce

end
-- ==== Proof.Total.lean ====
/-
  The sum that the exchange leaves on every device, over the extended reals.

  Three steps with the partners `c xor 1`, `c xor 2`, `c xor 4` add up all eight partial outputs; over the extended
  reals the order does not matter and the narrowing of what is sent is the identity.
-/
module

public import proofs.«01_k».proof.Proof.Sums
public import Idealize.ShloMosaic.Lib.Pointwise

@[expose] public section

set_option maxRecDepth 16384

noncomputable section

namespace Cert.KernelIdeal.AllReduce

open Cert.KernelIdeal
open Cert.KernelIdeal.Facts₀ Cert.KernelIdeal.Facts
open Idealize.ShloMosaic Idealize.ShloMosaic.TcCoe

/-- One step adds the partner's half. -/
theorem foldS_at (v w : HalfV Ideal) (b : Fin 2) (i : Fin 128) (n : Fin 256) :
    foldS (F := Ideal) v (narrow w) (ix3 b i n) = (v (ix3 b i n) + w (ix3 b i n) : EReal) := by
  have e : ∀ x, foldS (F := Ideal) v (narrow w) x = addf (F := Ideal) (shapeCast S2x128x256 v shapeCasts_S2x128x256_S2x128x256)
      (extf (F := Ideal) .f32 (narrow (F := Ideal) w) bitsLt_bf16_f32) x := by
    intro x
    refine congrArg (fun u : SlotV Ideal => addf (F := Ideal) (shapeCast S2x128x256 v shapeCasts_S2x128x256_S2x128x256)
      (extf (F := Ideal) .f32 u bitsLt_bf16_f32) x) ?_
    exact funext fun x => congrArg (narrow (F := Ideal) w) (Equiv.symm_apply_apply rsh x)
  rw [e]
  pointwise [narrow]

/-- The device whose number is `c`'s with the bits of `u` flipped. -/
def flip (c u : Dev nD) : Dev nD := ⟨c.val ^^^ u.val, by revert c u; decide⟩

theorem flip_flip (c u : Dev nD) : flip c (flip c u) = u := by revert c u; decide

/-- A sum over the devices in the order of the three steps. -/
theorem sum_steps (f : Dev nD → EReal) (c : Dev nD) :
    (f c + f (pr 0 c) + (f (pr 1 c) + f (pr 0 (pr 1 c)))) + (f (pr 2 c) + f (pr 0 (pr 2 c)) + (f (pr 1 (pr 2 c)) + f (pr 0 (pr 1 (pr 2 c)))))
      = ∑ d : Dev nD, f d := by
  have e0 : flip c (0 : Fin 8) = c := (by decide : ∀ c : Dev nD, flip c (0 : Fin 8) = c) c
  have e1 : flip c (1 : Fin 8) = pr 0 c := (by decide : ∀ c : Dev nD, flip c (1 : Fin 8) = pr 0 c) c
  have e2 : flip c (2 : Fin 8) = pr 1 c := (by decide : ∀ c : Dev nD, flip c (2 : Fin 8) = pr 1 c) c
  have e3 : flip c (3 : Fin 8) = pr 0 (pr 1 c) := (by decide : ∀ c : Dev nD, flip c (3 : Fin 8) = pr 0 (pr 1 c)) c
  have e4 : flip c (4 : Fin 8) = pr 2 c := (by decide : ∀ c : Dev nD, flip c (4 : Fin 8) = pr 2 c) c
  have e5 : flip c (5 : Fin 8) = pr 0 (pr 2 c) := (by decide : ∀ c : Dev nD, flip c (5 : Fin 8) = pr 0 (pr 2 c)) c
  have e6 : flip c (6 : Fin 8) = pr 1 (pr 2 c) := (by decide : ∀ c : Dev nD, flip c (6 : Fin 8) = pr 1 (pr 2 c)) c
  have e7 : flip c (7 : Fin 8) = pr 0 (pr 1 (pr 2 c)) := (by decide : ∀ c : Dev nD, flip c (7 : Fin 8) = pr 0 (pr 1 (pr 2 c))) c
  have e : (∑ u : Fin 8, f (flip c u)) = ∑ d : Dev nD, f d :=
    Equiv.sum_comp (⟨flip c, flip c, flip_flip c, flip_flip c⟩ : Dev nD ≃ Dev nD) f
  rw [← e, Fin.sum_univ_eight, e0, e1, e2, e3, e4, e5, e6, e7]
  simp only [add_assoc]

/-- After the last trade each half holds the sum of all devices' partial outputs. -/
theorem cur_last (P : Fin 2 → Dev nD → HalfV Ideal) (c : Dev nD) (h : Fin 2) (b : Fin 2) (i : Fin 128) (n : Fin 256) :
    cur (F := Ideal) P c 6 h (ix3 b i n) = ∑ d : Dev nD, (P h d (ix3 b i n) : EReal) := by
  have e3 : cur (F := Ideal) P c 6 h = acc P 3 h c := by
    match h with
    | 0 => rfl
    | 1 => rfl
  have s0 : stN 0 = 0 := rfl
  have s1 : stN 1 = 1 := rfl
  have s2 : stN 2 = 2 := rfl
  rw [e3]
  simp only [acc, foldS_at, s0, s1, s2]
  exact sum_steps (fun d => P h d (ix3 b i n)) c

end Cert.KernelIdeal.AllReduce

end
-- ==== Proof.HostSlices.lean ====
/-
  The host's slices: the 128 columns of the key and value weights that belong to a device.
-/
module

public import proofs.«01_k».proof.Proof.Region
public import Idealize.ShloMosaic.Lib.Pointwise
public import Idealize.ShloMosaic.Lib.StableHlo.Run

@[expose] public section

set_option maxRecDepth 16384

noncomputable section

namespace Cert.KernelIdeal.AllReduce

open Cert.KernelIdeal
open Cert.KernelIdeal.Facts₀ Cert.KernelIdeal.Facts
open Idealize.ShloMosaic Idealize.ShloMosaic.TcCoe Idealize.ShloMosaic.StableHlo

variable {F : FTy → Type} [FloatOps F]
variable (m : (ℓ : Loc nD τ sig) → Buf (Elt F) ℓ) (c : Dev nD)

/-- The word of the first column of device `d`. -/
def firstCol (d : Dev nD) : BitVec 32 :=
  Scalar.select (IntOp.cmpi .slt (IntOp.muli (IntOp.remui .host (IntOp.divui .host (Dev.word d) 1#32) 8#32) 128#32) 0#32)
    (IntOp.addi (IntOp.muli (IntOp.remui .host (IntOp.divui .host (Dev.word d) 1#32) 8#32) 128#32) 1024#32)
    (IntOp.muli (IntOp.remui .host (IntOp.divui .host (Dev.word d) 1#32) 8#32) 128#32)

theorem firstCol_eq (d : Dev nD) : (firstCol d).toInt = 128 * d.val := by revert d; decide

/-- A slice of 128 columns from column `128 d` on, at an index. -/
theorem slice_at {α : Type} (x : S512x1024.Idx → α) (d : Dev nD) (s : Fin 2 → Int) (h0 : s 0 = 0) (h1 : s 1 = 128 * d.val) (h)
    (t : Fin 512) (n : Fin 128) :
    Host.dynamicSlice S512x128 x s h (ix2 t n) = x (ix2 t ⟨128 * d.val + n.val, by have := d.isLt; have : nD = 8 := rfl; omega⟩) := by
  have hd : d.val < 8 := d.isLt
  have e0 : Host.clampedStart S512x1024 S512x128 h.1 s 0 = 0 := Host.clampedStart_of_le _ _ _ 0 h0 (by show 0 + 512 ≤ 512; omega)
  have e1 : Host.clampedStart S512x1024 S512x128 h.1 s 1 = 128 * d.val :=
    Host.clampedStart_of_le _ _ _ _ (by rw [h1]; rfl) (by show 128 * d.val + 128 ≤ 1024; omega)
  pointwise
  refine congrArg x ?_
  congr 1
  · exact Fin.ext (by dsimp only; omega)
  · exact Fin.ext (by dsimp only; omega)

/-- The host's operations before the first slice, and before the second. -/
abbrev pre1 (d : Dev nD) : List (HloOp τ sig (Elt F)) := (Gen.hostOps0 d).take 14
abbrev pre2 (d : Dev nD) : List (HloOp τ sig (Elt F)) := (Gen.hostOps0 d).take 23

section Words

variable (d : Dev nD) (V : Valuation τ sig (Elt F))

theorem row_k : after (pre1 d) V (Proc.devRef .tc main_c_4) = constantI S_ 32 0#32 := by
  simp only [pre1, Gen.hostOps0, List.take]
  after_results

theorem col_k : after (pre1 d) V (Proc.devRef .tc main_v8) = constantI S_ 32 (firstCol d) := by
  simp only [pre1, Gen.hostOps0, List.take]
  after_results
  rfl

theorem arr_k : after (pre1 d) V (Proc.devRef .tc main_arg2) = V (Proc.devRef .tc main_arg2) := by
  simp only [pre1, Gen.hostOps0, List.take]
  after_results

theorem row_v : after (pre2 d) V (Proc.devRef .tc main_c_8) = constantI S_ 32 0#32 := by
  simp only [pre2, Gen.hostOps0, List.take]
  after_results

theorem col_v : after (pre2 d) V (Proc.devRef .tc main_v13) = constantI S_ 32 (firstCol d) := by
  simp only [pre2, Gen.hostOps0, List.take]
  after_results
  rfl

theorem arr_v : after (pre2 d) V (Proc.devRef .tc main_arg3) = V (Proc.devRef .tc main_arg3) := by
  simp only [pre2, Gen.hostOps0, List.take]
  after_results

end Words

/-- The keys' columns of device `c`. -/
theorem opWk_eq (t : Fin 512) (n : Fin 128) :
    opWk m c (ix2 t n) = m ((c.tc : Thread nD τ).loc main_arg2) (ix2 t ⟨128 * c.val + n.val, by have := c.isLt; have : nD = 8 := rfl; omega⟩) := by
  have e : opWk m c = after ((Gen.hostOps0 c).drop 14) (after (pre1 c) (Gen.V0 m c)) (Proc.devRef .tc main_v9) := rfl
  have hr := row_k c (Gen.V0 m c)
  have hc := col_k c (Gen.V0 m c)
  have ha := arr_k c (Gen.V0 m c)
  rw [e]
  generalize after (pre1 c) (Gen.V0 m c) = W at hr hc ha
  simp only [Gen.hostOps0, List.drop]
  after_results
  refine (slice_at _ c _ ?_ ?_ _ t n).trans (congrFun ha _)
  · exact congrArg (fun u : S_.Idx → BitVec 32 => (u (Shape.Idx.first h_S_)).toInt) hr
  · exact (congrArg (fun u : S_.Idx → BitVec 32 => (u (Shape.Idx.first h_S_)).toInt) hc).trans (firstCol_eq c)

/-- The values' columns of device `c`. -/
theorem opWv_eq (t : Fin 512) (n : Fin 128) :
    opWv m c (ix2 t n) = m ((c.tc : Thread nD τ).loc main_arg3) (ix2 t ⟨128 * c.val + n.val, by have := c.isLt; have : nD = 8 := rfl; omega⟩) := by
  have e : opWv m c = after ((Gen.hostOps0 c).drop 23) (after (pre2 c) (Gen.V0 m c)) (Proc.devRef .tc main_v14) := rfl
  have hr := row_v c (Gen.V0 m c)
  have hc := col_v c (Gen.V0 m c)
  have ha := arr_v c (Gen.V0 m c)
  rw [e]
  generalize after (pre2 c) (Gen.V0 m c) = W at hr hc ha
  simp only [Gen.hostOps0, List.drop]
  after_results
  refine (slice_at _ c _ ?_ ?_ _ t n).trans (congrFun ha _)
  · exact congrArg (fun u : S_.Idx → BitVec 32 => (u (Shape.Idx.first h_S_)).toInt) hr
  · exact (congrArg (fun u : S_.Idx → BitVec 32 => (u (Shape.Idx.first h_S_)).toInt) hc).trans (firstCol_eq c)

theorem opX_eq : opX m c = m ((c.tc : Thread nD τ).loc main_arg0) := Gen.V1_of m c main_arg0 (by decide)
theorem opWq_eq : opWq m c = m ((c.tc : Thread nD τ).loc main_arg1) := Gen.V1_of m c main_arg1 (by decide)
theorem opWo_eq : opWo m c = m ((c.tc : Thread nD τ).loc main_arg4) := Gen.V1_of m c main_arg4 (by decide)

end Cert.KernelIdeal.AllReduce

end
-- ==== Proof.Reference.lean ====
/-
  What the reference computes, over the extended reals, at an index.
-/
module

public import proofs.«01_k».proof.Proof.Attention
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen
open Idealize.ShloMosaic Idealize.ShloMosaic.TcCoe

/-- Entry `x % 64` of query head `x / 64`, with the key and value head of its group of four, summed over `x` against the
output weights. -/
theorem out_at (m : (ℓ : Loc nD τ sig) → Buf (Elt Ideal) ℓ) (c : Dev nD) (b : Fin 2) (i : Fin 128) (n : Fin 512) :
    res_out0 (F := Ideal) m c (ix3 b i n)
      = ∑ x : Fin 4096, (Attention.head (fun i s => m (c.tc.loc main_arg0) (ix3 b i s))
          (fun s d => m (c.tc.loc main_arg1) (ix2 s ⟨x.val / 64 * 64 + d.val, by omega⟩))
          (fun s d => m (c.tc.loc main_arg2) (ix2 s ⟨x.val / 64 / 4 * 64 + d.val, by omega⟩))
          (fun s d => m (c.tc.loc main_arg3) (ix2 s ⟨x.val / 64 / 4 * 64 + d.val, by omega⟩))
          i ⟨x.val % 64, Nat.mod_lt _ (by decide)⟩ * m (c.tc.loc main_arg4) (ix2 x n) : EReal) := by
  unfold res_out0 res_main_v26
  clean_types
  pointwise
  refine Finset.sum_congr rfl fun x _ => ?_
  unfold Attention.head Attention.mix
  congr 2
  refine Finset.sum_congr rfl fun j _ => ?_
  exact mul_comm _ _

end Cert.ReferenceIdeal.Value

end
-- ==== Proof.Equation.lean ====
/-
  The equation: the sum of the eight devices' partial outputs is what the reference computes.

  Row `512 c + t` of the whole output weights is row `t` of device `c`'s, and query head `8 c + g` is device `c`'s head `g`.
-/
module

public import proofs.«01_k».proof.Proof.Partial
public import proofs.«01_k».proof.Proof.Total
public import proofs.«01_k».proof.Proof.HostSlices
public import proofs.«01_k».proof.Proof.Reference
public import Idealize.ShloMosaic.Lib.LayoutAt

@[expose] public section

set_option maxRecDepth 16384

noncomputable section

namespace Cert.Equation

open Idealize.ShloMosaic Idealize.ShloMosaic.TcCoe
open Cert.KernelIdeal.AllReduce

/-- A sum over 4096 rows, as eight sums over 512. -/
theorem sum_rows (f : Fin 4096 → EReal) : ∑ x, f x = ∑ c : Fin 8, ∑ t : Fin 512, f ⟨512 * c.val + t.val, by omega⟩ := by
  have e : ∑ x : Fin (8 * 512), f x = ∑ p : Fin 8 × Fin 512, f (finProdFinEquiv p) := (Equiv.sum_comp finProdFinEquiv _).symm
  refine e.trans ((Fintype.sum_prod_type _).trans (Finset.sum_congr rfl fun c _ => Finset.sum_congr rfl fun t _ => congrArg f ?_))
  exact Fin.ext (by show t.val + 512 * c.val = 512 * c.val + t.val; omega)

/-- A head depends on its columns only through what they hold. -/
theorem head_congr {x x' : Fin 128 → Fin 512 → EReal} {q q' k k' v v' : Fin 512 → Fin 64 → EReal} {i : Fin 128} {d d' : Fin 64}
    (hx : ∀ i t, x i t = x' i t) (hq : ∀ t d, q t d = q' t d) (hk : ∀ t d, k t d = k' t d) (hv : ∀ t d, v t d = v' t d) (hd : d = d') :
    Attention.head x q k v i d = Attention.head x' q' k' v' i d' := by
  obtain rfl : x = x' := funext fun i => funext (hx i)
  obtain rfl : q = q' := funext fun i => funext (hq i)
  obtain rfl : k = k' := funext fun i => funext (hk i)
  obtain rfl : v = v' := funext fun i => funext (hv i)
  rw [hd]

section Whole

variable (m : (ℓ : Loc KernelIdeal.nD KernelIdeal.τ KernelIdeal.sig) → Buf (Elt Ideal) ℓ)

/-- What a device ends with, at an index: all devices' partial outputs added up. -/
theorem total_at (c : Dev KernelIdeal.nD) (b : Fin 2) (i : Fin 128) (n : Fin 512) :
    total (F := Ideal) m c (ix3 b i n)
      = ∑ e : Dev KernelIdeal.nD, ∑ t : Fin 512, (Attention.head
          (fun i s => m ((e.tc : Thread KernelIdeal.nD KernelIdeal.τ).loc KernelIdeal.main_arg0) (ix3 b i s))
          (fun s d => m ((e.tc : Thread KernelIdeal.nD KernelIdeal.τ).loc KernelIdeal.main_arg1) (ix2 s ⟨64 * (t.val / 64) + d.val, by omega⟩))
          (fun s d => m ((e.tc : Thread KernelIdeal.nD KernelIdeal.τ).loc KernelIdeal.main_arg2)
            (ix2 s ⟨128 * e.val + (64 * (t.val / 64 / 4) + d.val), by have : e.val < 8 := e.isLt; omega⟩))
          (fun s d => m ((e.tc : Thread KernelIdeal.nD KernelIdeal.τ).loc KernelIdeal.main_arg3)
            (ix2 s ⟨128 * e.val + (64 * (t.val / 64 / 4) + d.val), by have : e.val < 8 := e.isLt; omega⟩))
          i ⟨t.val % 64, Nat.mod_lt _ (by decide)⟩
          * m ((e.tc : Thread KernelIdeal.nD KernelIdeal.τ).loc KernelIdeal.main_arg4) (ix2 t n) : EReal) := by
  have hj : total (F := Ideal) m c (ix3 b i n)
      = cur (F := Ideal) (partOf m) c 6 ⟨n.val / 256, by omega⟩ (ix3 b i ⟨n.val % 256, Nat.mod_lt _ (by decide)⟩) :=
    join_at _ _ _ _ rfl rfl (by show n.val = 256 * (n.val / 256) + n.val % 256; omega)
  rw [hj, cur_last]
  refine Finset.sum_congr rfl fun e _ => ?_
  unfold partOf
  rw [part_at]
  refine Finset.sum_congr rfl fun t _ => ?_
  have hn : (⟨256 * (n.val / 256) + n.val % 256, by omega⟩ : Fin 512) = n := Fin.ext (by dsimp only; omega)
  refine congrArg₂ (fun u v : EReal => u * v) (head_congr ?_ ?_ ?_ ?_ rfl) ?_
  · intro i s; exact congrFun (opX_eq m e) _
  · intro s d; exact congrFun (opWq_eq m e) _
  · intro s d; exact opWk_eq m e _ _
  · intro s d; exact opWv_eq m e _ _
  · exact (congrFun (opWo_eq m e) _).trans (congrArg (fun u => m ((e.tc : Thread KernelIdeal.nD KernelIdeal.τ).loc KernelIdeal.main_arg4) (ix2 t u)) hn)

variable (m' : (ℓ : Loc ReferenceIdeal.nD ReferenceIdeal.τ ReferenceIdeal.sig) → Buf (Elt Ideal) ℓ)

/-- Every device ends with the reference's result. -/
theorem total_eq
    (h : ∀ c : Dev KernelIdeal.nD,
      m ((c.tc : Thread KernelIdeal.nD KernelIdeal.τ).loc KernelIdeal.main_arg0) = m' (((0 : Dev ReferenceIdeal.nD).tc : Thread ReferenceIdeal.nD ReferenceIdeal.τ).loc ReferenceIdeal.main_arg0)
      ∧ m ((c.tc : Thread KernelIdeal.nD KernelIdeal.τ).loc KernelIdeal.main_arg1) = Layout.block ⟨2, ![512, 512]⟩ ⟨2, ![512, 4096]⟩ 1 8 c (m' (((0 : Dev ReferenceIdeal.nD).tc : Thread ReferenceIdeal.nD ReferenceIdeal.τ).loc ReferenceIdeal.main_arg1))
      ∧ m ((c.tc : Thread KernelIdeal.nD KernelIdeal.τ).loc KernelIdeal.main_arg2) = m' (((0 : Dev ReferenceIdeal.nD).tc : Thread ReferenceIdeal.nD ReferenceIdeal.τ).loc ReferenceIdeal.main_arg2)
      ∧ m ((c.tc : Thread KernelIdeal.nD KernelIdeal.τ).loc KernelIdeal.main_arg3) = m' (((0 : Dev ReferenceIdeal.nD).tc : Thread ReferenceIdeal.nD ReferenceIdeal.τ).loc ReferenceIdeal.main_arg3)
      ∧ m ((c.tc : Thread KernelIdeal.nD KernelIdeal.τ).loc KernelIdeal.main_arg4) = Layout.block ⟨2, ![512, 512]⟩ ⟨2, ![4096, 512]⟩ 0 8 c (m' (((0 : Dev ReferenceIdeal.nD).tc : Thread ReferenceIdeal.nD ReferenceIdeal.τ).loc ReferenceIdeal.main_arg4)))
    (c : Dev KernelIdeal.nD) : total (F := Ideal) m c = ReferenceIdeal.Value.res_out0 (F := Ideal) m' 0 := by
  have at3 : ∀ (b : Fin 2) (i : Fin 128) (n : Fin 512),
      total (F := Ideal) m c (ix3 b i n) = ReferenceIdeal.Value.res_out0 (F := Ideal) m' 0 (ix3 b i n) := by
    intro b i n
    rw [total_at]
    refine Eq.trans ?_ (ReferenceIdeal.Value.out_at m' 0 b i n).symm
    rw [sum_rows]
    refine Finset.sum_congr rfl fun e _ => Finset.sum_congr rfl fun t _ => ?_
    obtain ⟨h0, h1, h2, h3, h4⟩ := h e
    have he : e.val < 8 := e.isLt
    refine congrArg₂ (fun u v : EReal => u * v) (head_congr ?_ ?_ ?_ ?_ ?_) ?_
    · intro i s; exact congrFun h0 _
    · intro s d
      refine (congrFun h1 _).trans (congrArg (m' (((0 : Dev ReferenceIdeal.nD).tc : Thread ReferenceIdeal.nD ReferenceIdeal.τ).loc ReferenceIdeal.main_arg1)) ?_)
      refine funext fun k => Fin.ext ?_
      match k with
      | 0 => rfl
      | 1 => show e.val * 512 + (64 * (t.val / 64) + d.val) = (512 * e.val + t.val) / 64 * 64 + d.val; omega
    · intro s d
      refine (congrFun h2 _).trans (congrArg (m' (((0 : Dev ReferenceIdeal.nD).tc : Thread ReferenceIdeal.nD ReferenceIdeal.τ).loc ReferenceIdeal.main_arg2)) ?_)
      refine funext fun k => Fin.ext ?_
      match k with
      | 0 => rfl
      | 1 => show 128 * e.val + (64 * (t.val / 64 / 4) + d.val) = (512 * e.val + t.val) / 64 / 4 * 64 + d.val; omega
    · intro s d
      refine (congrFun h3 _).trans (congrArg (m' (((0 : Dev ReferenceIdeal.nD).tc : Thread ReferenceIdeal.nD ReferenceIdeal.τ).loc ReferenceIdeal.main_arg3)) ?_)
      refine funext fun k => Fin.ext ?_
      match k with
      | 0 => rfl
      | 1 => show 128 * e.val + (64 * (t.val / 64 / 4) + d.val) = (512 * e.val + t.val) / 64 / 4 * 64 + d.val; omega
    · exact Fin.ext (by show t.val % 64 = (512 * e.val + t.val) % 64; omega)
    · refine (congrFun h4 _).trans (congrArg (m' (((0 : Dev ReferenceIdeal.nD).tc : Thread ReferenceIdeal.nD ReferenceIdeal.τ).loc ReferenceIdeal.main_arg4)) ?_)
      refine funext fun k => Fin.ext ?_
      match k with
      | 0 => show e.val * 512 + t.val = 512 * e.val + t.val; omega
      | 1 => rfl
  funext j
  have ej : j = ix3 (j 0) (j 1) (j 2) := funext fun k => by
    match k with
    | 0 => rfl
    | 1 => rfl
    | 2 => rfl
  rw [ej]
  exact at3 _ _ _

end Whole

end Cert.Equation

end
-- ==== Proof.lean ====
/- Grouped-query attention on eight devices against the plain attention on one.
   The kernel's run is `run_main` (Proof/Launch.lean), stated once for any float values: both of its frames are that run
   with the values dropped. The reference's run is generated. That the two results are equal is `total_eq`
   (Proof/Equation.lean). -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Equation

@[expose] public section

noncomputable section

namespace Cert.Proof

open Idealize.ShloMosaic Idealize.SL.Sem

/-- The body table of the kernel as printed is the idealized kernel's: the two programs have one text. -/
theorem bodies_same : Cert.Kernel.defs₀ (F := Bits) = Cert.KernelIdeal.defs₀ (F := Bits) := by
  unfold Cert.Kernel.defs₀ Cert.KernelIdeal.defs₀
  refine congrArg (Defs.onTc (τ := Cert.Kernel.τ) (sig := Cert.Kernel.sig) (nD := Cert.Kernel.nD) (Λ := Cert.Kernel.Λ₀) (Val := Elt Bits)) ?_
  funext l a
  match l, a with
  | 0, (t, s) => rfl

/-- The kernel as printed, over machine words: it terminates, keeps its arguments and leaves every semaphore at zero. -/
theorem frame_kernel : Cert.quiescent_Kernel := by
  intro m ρ _
  have h := (θ_run Cert.KernelIdeal.defs _ _).mono (fun _ h => And.intro (fun c => (h.1 c).2) h.2)
    (Cert.KernelIdeal.AllReduce.run_main (F := Bits) m ρ)
  unfold Cert.Kernel.defs
  rw [bodies_same]
  exact h

/-- The same of the kernel over the extended reals. -/
theorem frame_kernelIdeal : Cert.quiescent_KernelIdeal := fun m ρ _ =>
  (θ_run Cert.KernelIdeal.defs _ _).mono (fun _ h => ⟨fun c => (h.1 c).2, h.2⟩)
    (Cert.KernelIdeal.AllReduce.run_main (F := Ideal) m ρ)

/-- The reference over the extended reals: host code on one device, without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that agree, every device of the kernel ends with the reference's result. -/
theorem algebraic : Cert.algebraic_KernelIdeal_ReferenceIdeal := fun m g m' g' _ h =>
  ⟨Cert.ReferenceIdeal.Value.res_out0 (F := Ideal) m' 0,
    (θ_run Cert.KernelIdeal.defs _ _).mono
      (fun r hr c => ⟨(hr.1 c).1.trans (Cert.Equation.total_eq m m' h c), (hr.1 c).2⟩)
      (Cert.KernelIdeal.AllReduce.run_main (F := Ideal) m g),
    (θ_run Cert.ReferenceIdeal.defs _ _).mono (fun r hr => hr 0) (Cert.ReferenceIdeal.Value.run (F := Ideal) m' g')⟩

/-- Everything that is claimed. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
